-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v82) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S512x1024 : Shape := ⟨2, ![512, 1024]⟩
abbrev S512x512 : Shape := ⟨2, ![512, 512]⟩
abbrev S3x512x512 : Shape := ⟨3, ![3, 512, 512]⟩
abbrev S3 : Shape := ⟨1, ![3]⟩
abbrev S_ : Shape := ⟨0, ![]⟩
abbrev S512x2 : Shape := ⟨2, ![512, 2]⟩
abbrev S512 : Shape := ⟨1, ![512]⟩
abbrev S512x1 : Shape := ⟨2, ![512, 1]⟩
abbrev S1x512x512 : Shape := ⟨3, ![1, 512, 512]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x2, .i32⟩
  | .hbm, ⟨3, _⟩ => ⟨S4x512x1024, .f32⟩
  | .hbm, ⟨4, _⟩ => ⟨S512x1024, .f32⟩
  | .local _ .vmem, ⟨0, _⟩ => ⟨S2048x512, .f32⟩
  | .local _ .vmem, ⟨1, _⟩ => ⟨S512x16, .f32⟩
  | .local _ .vmem, ⟨2, _⟩ => ⟨S2048x2, .i32⟩
  | .local _ .vmem, ⟨3, _⟩ => ⟨S4x512x1024, .f32⟩
  | .local _ .vmem, ⟨4, _⟩ => ⟨S512x1024, .f32⟩
  | .local _ .vmem, ⟨5, _⟩ => ⟨S4x512x1024, .bf16⟩
  | .local _ .vmem, ⟨6, _⟩ => ⟨S512x512, .bf16⟩
  | .local _ .vmem, ⟨7, _⟩ => ⟨S512x512, .bf16⟩
  | .local _ .vmem, ⟨8, _⟩ => ⟨S3x512x512, .bf16⟩
  | .local _ .vmem, ⟨9, _⟩ => ⟨S3x512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v19 : BitVec 32 := Scalar.addi v2 c4_i32_15
  let c1_i32_16 : BitVec 32 := 1#32
  let v20 : BitVec 32 := Scalar.subi v19 c1_i32_16
  let c4_i32_17 : BitVec 32 := 4#32
  let v21 : BitVec 32 := Scalar.remsi v20 c4_i32_17
  let c512_i32 : BitVec 32 := 512#32
  let v22 : BitVec 32 := Scalar.muli v21 c512_i32
  let v23 : Index := Scalar.indexCast v22
  let c0_18 : Index := 0#32
  ![v23.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v19 : BitVec 32 := Scalar.addi v2 c4_i32_15
  let c1_i32_16 : BitVec 32 := 1#32
  let v20 : BitVec 32 := Scalar.subi v19 c1_i32_16
  let c4_i32_17 : BitVec 32 := 4#32
  let v21 : BitVec 32 := Scalar.remsi v20 c4_i32_17
  let c512_i32 : BitVec 32 := 512#32
  let v22 : BitVec 32 := Scalar.muli v21 c512_i32
  let v26 : Index := Scalar.indexCast v22
  let c0_19 : Index := 0#32
  ![v26.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v143 : BitVec 32 := Scalar.addi v2 c1_i32_49
  let c4_i32_50 : BitVec 32 := 4#32
  let v144 : BitVec 32 := Scalar.remsi v143 c4_i32_50
  let c512_i32_51 : BitVec 32 := 512#32
  let v145 : BitVec 32 := Scalar.muli v144 c512_i32_51
  let v146 : Index := Scalar.indexCast v145
  let c0_52 : Index := 0#32
  ![v146.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v143 : BitVec 32 := Scalar.addi v2 c1_i32_49
  let c4_i32_50 : BitVec 32 := 4#32
  let v144 : BitVec 32 := Scalar.remsi v143 c4_i32_50
  let c512_i32_51 : BitVec 32 := 512#32
  let v145 : BitVec 32 := Scalar.muli v144 c512_i32_51
  let v149 : Index := Scalar.indexCast v145
  let c0_53 : Index := 0#32
  ![v149.toNat, 0]
def k0_dev3 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_90 : BitVec 32 := 1#32
  let v266 : BitVec 32 := Scalar.muli v7 c1_i32_90
  let v267 : BitVec 32 := Scalar.addi c0_i32_91 v266
  v267.toNat
def k0_dev4 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_97 : BitVec 32 := 1#32
  let v274 : BitVec 32 := Scalar.muli v5 c1_i32_97
  let v275 : BitVec 32 := Scalar.addi c0_i32_98 v274
  v275.toNat
def k0_off5 (d0 : Dev nD) (c0_i32_102 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v282 : BitVec 32 := Scalar.addi v2 c8_i32
  let c2_i32_101 : BitVec 32 := 2#32
  let v283 : BitVec 32 := Scalar.subi v282 c2_i32_101
  let v284 : BitVec 32 := Scalar.subi v283 c0_i32_102
  let c4_i32_103 : BitVec 32 := 4#32
  let v285 : BitVec 32 := Scalar.remsi v284 c4_i32_103
  let c512_i32_107 : BitVec 32 := 512#32
  let v289 : BitVec 32 := Scalar.muli v285 c512_i32_107
  let v290 : Index := Scalar.indexCast v289
  let c0_108 : Index := 0#32
  ![v290.toNat, 0]
def k0_off6 (d0 : Dev nD) (c0_i32_102 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v282 : BitVec 32 := Scalar.addi v2 c8_i32
  let c2_i32_101 : BitVec 32 := 2#32
  let v283 : BitVec 32 := Scalar.subi v282 c2_i32_101
  let v284 : BitVec 32 := Scalar.subi v283 c0_i32_102
  let c4_i32_103 : BitVec 32 := 4#32
  let v285 : BitVec 32 := Scalar.remsi v284 c4_i32_103
  let c512_i32_107 : BitVec 32 := 512#32
  let v289 : BitVec 32 := Scalar.muli v285 c512_i32_107
  let v293 : Index := Scalar.indexCast v289
  let c0_109 : Index := 0#32
  ![v293.toNat, 0]
def k0_off7 (d0 : Dev nD) (c0_i32_105 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_104 : BitVec 32 := 2#32
  let v286 : BitVec 32 := Scalar.addi v2 c2_i32_104
  let v287 : BitVec 32 := Scalar.addi v286 c0_i32_105
  let c4_i32_106 : BitVec 32 := 4#32
  let v288 : BitVec 32 := Scalar.remsi v287 c4_i32_106
  let c512_i32_142 : BitVec 32 := 512#32
  let v406 : BitVec 32 := Scalar.muli v288 c512_i32_142
  let v407 : Index := Scalar.indexCast v406
  let c0_143 : Index := 0#32
  ![v407.toNat, 0]
def k0_off8 (d0 : Dev nD) (c0_i32_105 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_104 : BitVec 32 := 2#32
  let v286 : BitVec 32 := Scalar.addi v2 c2_i32_104
  let v287 : BitVec 32 := Scalar.addi v286 c0_i32_105
  let c4_i32_106 : BitVec 32 := 4#32
  let v288 : BitVec 32 := Scalar.remsi v287 c4_i32_106
  let c512_i32_142 : BitVec 32 := 512#32
  let v406 : BitVec 32 := Scalar.muli v288 c512_i32_142
  let v410 : Index := Scalar.indexCast v406
  let c0_144 : Index := 0#32
  ![v410.toNat, 0]
def k0_dev5 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_216 : BitVec 32 := 1#32
  let v559 : BitVec 32 := Scalar.muli v7 c1_i32_216
  let v560 : BitVec 32 := Scalar.addi c0_i32_217 v559
  v560.toNat
def k0_dev6 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_223 : BitVec 32 := 1#32
  let v567 : BitVec 32 := Scalar.muli v5 c1_i32_223
  let v568 : BitVec 32 := Scalar.addi c0_i32_224 v567
  v568.toNat
def k0_dev7 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_343 : BitVec 32 := 1#32
  let v852 : BitVec 32 := Scalar.muli v7 c1_i32_343
  let v853 : BitVec 32 := Scalar.addi c0_i32_344 v852
  v853.toNat
def k0_dev8 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_350 : BitVec 32 := 1#32
  let v860 : BitVec 32 := Scalar.muli v5 c1_i32_350
  let v861 : BitVec 32 := Scalar.addi c0_i32_351 v860
  v861.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x2 : Shape := ⟨2, ![2048, 2]⟩
abbrev S16x512x1024 : Shape := ⟨3, ![16, 512, 1024]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2 : Shape := ⟨1, ![2]⟩
abbrev S1x2 : Shape := ⟨2, ![1, 2]⟩
abbrev S2048x16x1024 : Shape := ⟨3, ![2048, 16, 1024]⟩
abbrev S2048x1024 : Shape := ⟨2, ![2048, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x2, .i32⟩
  | .hbm, ⟨3, _⟩ => ⟨S16x512x1024, .f32⟩
  | .hbm, ⟨4, _⟩ => ⟨S2048x16, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x16, .f32⟩
  | .hbm, ⟨15, _⟩ => ⟨S2048x16, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x1, .i32⟩
  | .hbm, ⟨23, _⟩ => ⟨S2048x2, .i32⟩
  | .hbm, ⟨24, _⟩ => ⟨S2, .i32⟩
  | .hbm, ⟨25, _⟩ => ⟨S_, .i32⟩
  | .hbm, ⟨26, _⟩ => ⟨S2048x2, .i32⟩
  | .hbm, ⟨27, _⟩ => ⟨S2048x2, .i1⟩
  | .hbm, ⟨28, _⟩ => ⟨S1x2, .i32⟩
  | .hbm, ⟨29, _⟩ => ⟨S2048x2, .i32⟩
  | .hbm, ⟨30, _⟩ => ⟨S2048x2, .i1⟩
  | .hbm, ⟨31, _⟩ => ⟨S2048x2, .i1⟩
  | .hbm, ⟨32, _⟩ => ⟨S_, .i1⟩
  | .hbm, ⟨33, _⟩ => ⟨S2048, .i1⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048, .i32⟩
  | .hbm, ⟨39, _⟩ => ⟨S2048x1, .i32⟩
  | .hbm, ⟨40, _⟩ => ⟨S2048x1, .i32⟩
  | .hbm, ⟨41, _⟩ => ⟨S2048x2, .i32⟩
  | .hbm, ⟨42, _⟩ => ⟨S2, .i32⟩
  | .hbm, ⟨43, _⟩ => ⟨S_, .i32⟩
  | .hbm, ⟨44, _⟩ => ⟨S2048x2, .i32⟩
  | .hbm, ⟨45, _⟩ => ⟨S2048x2, .i1⟩
  | .hbm, ⟨46, _⟩ => ⟨S1x2, .i32⟩
  | .hbm, ⟨47, _⟩ => ⟨S2048x2, .i32⟩
  | .hbm, ⟨48, _⟩ => ⟨S2048x2, .i1⟩
  | .hbm, ⟨49, _⟩ => ⟨S2048x2, .i1⟩
  | .hbm, ⟨50, _⟩ => ⟨S_, .i1⟩
  | .hbm, ⟨51, _⟩ => ⟨S2048, .i1⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S2048x16x1024, .f32⟩
  | .hbm, ⟨58, _⟩ => ⟨S2048, .f32⟩
  | .hbm, ⟨59, _⟩ => ⟨S2048x1, .f32⟩
  | .hbm, ⟨60, _⟩ => ⟨S2048, .i32⟩
  | .hbm, ⟨61, _⟩ => ⟨S2048x1, .i32⟩
  | .hbm, ⟨62, _⟩ => ⟨S2048x1, .i32⟩
  | .hbm, ⟨63, _⟩ => ⟨S2048x2, .i32⟩
  | .hbm, ⟨64, _⟩ => ⟨S2, .i32⟩
  | .hbm, ⟨65, _⟩ => ⟨S_, .i32⟩
  | .hbm, ⟨66, _⟩ => ⟨S2048x2, .i32⟩
  | .hbm, ⟨67, _⟩ => ⟨S2048x2, .i1⟩
  | .hbm, ⟨68, _⟩ => ⟨S1x2, .i32⟩
  | .hbm, ⟨69, _⟩ => ⟨S2048x2, .i32⟩
  | .hbm, ⟨70, _⟩ => ⟨S2048x2, .i1⟩
  | .hbm, ⟨71, _⟩ => ⟨S2048x2, .i1⟩
  | .hbm, ⟨72, _⟩ => ⟨S_, .i1⟩
  | .hbm, ⟨73, _⟩ => ⟨S2048, .i1⟩
  | .hbm, ⟨74, _⟩ => ⟨S2048x1024, .f32⟩
  | .hbm, ⟨75, _⟩ => ⟨S2048x1024, .i1⟩
  | .hbm, ⟨76, _⟩ => ⟨S_, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048, .f32⟩
  | .hbm, ⟨82, _⟩ => ⟨S2048x1, .f32⟩
  | .hbm, ⟨83, _⟩ => ⟨S2048, .i32⟩
  | .hbm, ⟨84, _⟩ => ⟨S2048x1, .i32⟩
  | .hbm, ⟨85, _⟩ => ⟨S2048x1, .i32⟩
  | .hbm, ⟨86, _⟩ => ⟨S2048x2, .i32⟩
  | .hbm, ⟨87, _⟩ => ⟨S2, .i32⟩
  | .hbm, ⟨88, _⟩ => ⟨S_, .i32⟩
  | .hbm, ⟨89, _⟩ => ⟨S2048x2, .i32⟩
  | .hbm, ⟨90, _⟩ => ⟨S2048x2, .i1⟩
  | .hbm, ⟨91, _⟩ => ⟨S1x2, .i32⟩
  | .hbm, ⟨92, _⟩ => ⟨S2048x2, .i32⟩
  | .hbm, ⟨93, _⟩ => ⟨S2048x2, .i1⟩
  | .hbm, ⟨94, _⟩ => ⟨S2048x2, .i1⟩
  | .hbm, ⟨95, _⟩ => ⟨S_, .i1⟩
  | .hbm, ⟨96, _⟩ => ⟨S2048, .i1⟩
  | .hbm, ⟨97, _⟩ => ⟨S2048x1024, .f32⟩
  | .hbm, ⟨98, _⟩ => ⟨S2048x1024, .i1⟩
  | .hbm, ⟨99, _⟩ => ⟨S_, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_12 : Ref sig .tc := ⟨.hbm, 87, rfl⟩
abbrev main_c_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩

abbrev nD : Nat := 1
abbrev τ : Topo := Topo.v7x

variable {F : FTy → Type} [FloatOps F]
-- ==== Proof.Half.lean ====
/-
# What one device adds to a chunk: definitions

One device holds four experts. For a chunk of 512 rows and one half of the 1024 output columns it
adds up, over its four experts, the routing weight of the expert times the product of the rows with the
expert's half matrix. `halfOf` is that sum, written with the operations of the kernel on the values
its loads return, in the order in which the kernel applies them. The kernel runs it eight times (four chunks,
two halves), each time cut at other places by the printer; here it is stated once.
-/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.ShloMosaic.TcCoe

variable {F : FTy → Type} [FloatOps F]

/-- The router's scores of 512 rows. -/
def scoresOf (x : FVec F S512x512 .f32) (rw : FVec F S512x16 .f32) : FVec F S512x16 .f32 :=
  matmul dot_S512x512_S512x16_S512x16_1_0_0_1_n_n none x rw (constant S512x16 .f32 0x00000000#32)

/-- The exponentials of the scores, each row shifted by its maximum. -/
def expsOf (s : FVec F S512x16 .f32) : FVec F S512x16 .f32 :=
  exp (subf s (broadcastTo S512x16 (shapeCast S512x1 (multiReduction .maximumf [1] S512 s 0xFF800000#32 reduces_S512x16_S512 (.inl rfl) rfl)
    shapeCasts_S512_S512x1) broadcasts_S512x1_S512x16))

/-- Each row divided by its sum. -/
def normOf (e : FVec F S512x16 .f32) : FVec F S512x16 .f32 :=
  divf e (broadcastTo S512x16 (shapeCast S512x1 (multiReduction .add [1] S512 e 0x00000000#32 reduces_S512x16_S512 (.inl rfl) rfl)
    shapeCasts_S512_S512x1) broadcasts_S512x1_S512x16)

/-- The routing probabilities of 512 rows: the softmax of the scores. -/
def probsOf (x : FVec F S512x512 .f32) (rw : FVec F S512x16 .f32) : FVec F S512x16 .f32 :=
  normOf (expsOf (scoresOf x rw))

/-- The first of the two experts named for each row. -/
def firstOf (idx : IVec S512x2 32) : IVec S512x1 32 := extractStridedSlice S512x1 ![0, 0] idx slices_S512x2_o0_0_S512x1

/-- The second of the two experts named for each row. -/
def secondOf (idx : IVec S512x2 32) : IVec S512x1 32 := extractStridedSlice S512x1 ![0, 1] idx slices_S512x2_o0_1_S512x1

/-- In each row the probability of the expert `e` names, taken as a sum against the indicator of that expert. -/
def pickOf (p : FVec F S512x16 .f32) (e : IVec S512x1 32) : FVec F S512x1 .f32 :=
  shapeCast S512x1 (multiReduction .add [1] S512
    (mulf p (sitofp .f32 (extui 32 (cmpi .eq (iota .tc S512x16 32 [1] iota_S512x16_d1_w32) (broadcastTo S512x16 e broadcasts_S512x1_S512x16)) natLt_1_32)))
    0x00000000#32 reduces_S512x16_S512 (.inl rfl) rfl) shapeCasts_S512_S512x1

/-- One where the row names expert `4 * v + k`, zero elsewhere. -/
def hitOf (v k : BitVec 32) (e : IVec S512x1 32) : FVec F S512x1 .f32 :=
  sitofp .f32 (extui 32 (cmpi .eq e (broadcast S512x1 (Scalar.addi (Scalar.muli v 4#32) k))) natLt_1_32)

/-- The routing weight of expert `4 * v + k` in each row: the two normalized probabilities, each where its expert is that one. -/
def gateOf (v k : BitVec 32) (p : FVec F S512x16 .f32) (idx : IVec S512x2 32) : FVec F S512x1 .f32 :=
  addf (mulf (divf (pickOf p (firstOf idx)) (addf (pickOf p (firstOf idx)) (pickOf p (secondOf idx)))) (hitOf v k (firstOf idx)))
    (mulf (divf (pickOf p (secondOf idx)) (addf (pickOf p (firstOf idx)) (pickOf p (secondOf idx)))) (hitOf v k (secondOf idx)))

/-- The product of the rows with one expert's half matrix, weighted row by row. -/
def termOf (g : FVec F S512x1 .f32) (xb w : FVec F S512x512 .bf16) : FVec F S512x512 .f32 :=
  mulf (broadcastTo S512x512 g broadcasts_S512x1_S512x512)
    (matmul dot_S512x512_S512x512_S512x512_1_0_0_1_n_n none xb w (constant S512x512 .f32 0x00000000#32))

/-- What device `v` adds for 512 rows and one half of the columns: the four experts' weighted products, added in order. -/
def halfOf (v : BitVec 32) (x : FVec F S512x512 .f32) (idx : IVec S512x2 32) (rw : FVec F S512x16 .f32)
    (w0 w1 w2 w3 : FVec F S512x512 .bf16) : FVec F S512x512 .f32 :=
  addf (addf (addf (addf (broadcast S512x512 (Scalar.ofBits .f32 0x00000000#32))
      (termOf (gateOf v 0#32 (probsOf x rw) idx) (truncf .bf16 x bitsLt_bf16_f32) w0))
      (termOf (gateOf v 1#32 (probsOf x rw) idx) (truncf .bf16 x bitsLt_bf16_f32) w1))
      (termOf (gateOf v 2#32 (probsOf x rw) idx) (truncf .bf16 x bitsLt_bf16_f32) w2))
      (termOf (gateOf v 3#32 (probsOf x rw) idx) (truncf .bf16 x bitsLt_bf16_f32) w3)

/-- `halfOf` on the values as the loads return them. -/
def halfRaw (v : BitVec 32) (x : Vec F S512x512 .f32) (idx : Vec F S512x2 .i32) (rw : Vec F S512x16 .f32)
    (w : Fin 4 → Vec F S1x512x512 .bf16) : FVec F S512x512 .f32 :=
  halfOf v (shapeCast S512x512 x shapeCasts_S512x512_S512x512) (shapeCast S512x2 idx shapeCasts_S512x2_S512x2)
    (shapeCast S512x16 rw shapeCasts_S512x16_S512x16)
    (shapeCast S512x512 (w 0) shapeCasts_S1x512x512_S512x512) (shapeCast S512x512 (w 1) shapeCasts_S1x512x512_S512x512)
    (shapeCast S512x512 (w 2) shapeCasts_S1x512x512_S512x512) (shapeCast S512x512 (w 3) shapeCasts_S1x512x512_S512x512)

/-- A half sum cut to the width it is sent at. -/
def packOf (a : FVec F S512x512 .f32) : FVec F S512x512 .bf16 :=
  shapeCast S512x512 (truncf .bf16 a bitsLt_bf16_f32) shapeCasts_S512x512_S512x512

/-- What was received, widened, and this device's half sum added to it. -/
def joinOf (r : FVec F S512x512 .bf16) (a : FVec F S512x512 .f32) : FVec F S512x512 .f32 :=
  addf (extf .f32 r bitsLt_bf16_f32) a

end Cert.Moe

end
-- ==== Proof.Ring.lean ====
/-
# The ring: cells, contents and schedule

Four devices on a ring. Every device computes half sums chunk by chunk (`Half.lean`) and passes them on: the left
column half runs clockwise (to the next device), the right half counter-clockwise (to the device before). Everything
here is stated once for a direction `d : Bool` (`false` clockwise, `true` counter-clockwise) and a hop `h : Fin 3`.

A transfer of direction `d` and hop `h` reads the sender's send buffer of that direction, lands in slot `h` of the
receiver's landing buffer of that direction, and pays one send cell on the sender and one receive cell on the receiver.
Before the first transfer each device signals both neighbours' barrier cell, handing each the landing slots
that neighbour will write; it waits for the two signals of its own.
-/
module

public import proofs.«01_k».proof.Proof.Half
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Directions, buffers, semaphores -/

set_option backward.proofsInPublic true in
/-- The device a transfer of direction `d` goes to. -/
def peer (d : Bool) (c : Dev nD) : Dev nD := ⟨(c.val + bif d then 3 else 1) % 4, Nat.mod_lt _ (by decide)⟩
/-- The device a transfer of direction `d` comes from. -/
abbrev fro (d : Bool) (c : Dev nD) : Dev nD := peer (!d) c
/-- Coming back from the next device in a direction. -/
theorem fro_peer (d : Bool) (c : Dev nD) : fro d (peer d c) = c := by revert d c; decide
/-- Going on from the previous device in a direction. -/
theorem peer_fro (d : Bool) (c : Dev nD) : peer d (fro d c) = c := by revert d c; decide

/-- Going round in direction `d`. -/
def ring (d : Bool) : Dev nD ≃ Dev nD := ⟨peer d, fro d, fro_peer d, peer_fro d⟩

/-- The send buffer of direction `d`. -/
abbrev sndR : Bool → Ref sig .tc := fun | false => cc0_scratch1 | true => cc0_scratch2
/-- The landing buffer of direction `d`, three slots. -/
abbrev bufR : Bool → Ref sig .tc := fun | false => cc0_scratch3 | true => cc0_scratch4
/-- The send buffer of a direction. -/
abbrev sndM : Bool → Memref sig .tc .vmem S512x512 .bf16 := fun | false => Memref.whole cc0_scratch1 | true => Memref.whole cc0_scratch2
/-- The landing buffer of a direction. -/
abbrev bufM : Bool → Memref sig .tc .vmem S3x512x512 .bf16 := fun | false => Memref.whole cc0_scratch3 | true => Memref.whole cc0_scratch4

/-- Each slot fits in the landing buffer. -/
theorem slot_inb : ∀ (h : Fin 3) (a : Fin 3), (![h.val, 0, 0] : Fin 3 → Nat) a + S1x512x512.size a ≤ S3x512x512.size a := by decide

/-- Slot `h` as a box of the landing buffer. -/
abbrev slotR (h : Fin 3) : Rect S3x512x512 := Rect.unit (s := S3x512x512) ![h.val, 0, 0] S1x512x512.size (slot_inb h)
/-- Slot `h` of the landing buffer of direction `d`. -/
abbrev slotM (d : Bool) (h : Fin 3) : Memref sig .tc .vmem S512x512 .bf16 :=
  ((bufM d).slice (slotR h) (fun _ => rfl)).squeeze S512x512 squeezes_S1x512x512_S512x512

/-- The barrier semaphore. -/
abbrev barS : Sem sig := (SemArray.scalar (sig.barrier 0 rfl) : Sems sig S_).sem

/-- Where the transfer semaphores of a direction and an end begin. -/
abbrev xbase : Bool → Bool → Fin 15 := fun | false, false => 5 | false, true => 8 | true, false => 11 | true, true => 14
set_option backward.proofsInPublic true in
/-- The transfer semaphore of direction `d` and hop `h`: the receiving one where `r`, the sending one otherwise. -/
def xsem (d r : Bool) (h : Fin 3) : DmaSem sig := ⟨(xbase d r).val + h.val, by revert d r h; decide⟩

/-- The kernel's cells on one device: the barrier, and for each direction, end and hop a transfer's. -/
abbrev Cell : Type := Option (Bool × Bool × Fin 3)
/-- The transfer semaphores by direction, end and hop. -/
abbrev osem : Bool × Bool × Fin 3 → SemLoc sig := fun k => .dma (xsem k.1 k.2.1 k.2.2)
/-- The semaphores of the exchange: the barrier's and the transfers'. -/
abbrev csem : Cell → SemLoc sig := fun | none => .reg barS | some k => osem k
/-- The semaphore of the exchange `k` on device `c`. -/
abbrev kcell (ck : Dev nD × Cell) : GSem nD τ sig := ((ck.1 : Thread nD τ), csem ck.2)

/-- The barrier's semaphore on device `c`. -/
abbrev barCell (c : Dev nD) : GSem nD τ sig := ((c : Thread nD τ), .reg barS)
/-- A transfer's semaphore on device `c`. -/
abbrev xCell (d r : Bool) (h : Fin 3) (c : Dev nD) : GSem nD τ sig := ((c : Thread nD τ), .dma (xsem d r h))

/-- Which direction, end and hop a transfer semaphore serves; nothing for the staging ones. -/
def roleOf (q : DmaSem sig) : Option (Bool × Bool × Fin 3) :=
  (Finset.univ.filter fun k : Bool × Bool × Fin 3 => xsem k.1 k.2.1 k.2.2 = q).toList.head?

/-- The semaphores of the kernel are pairwise distinct. -/
theorem xsem_inj : ∀ k k' : Bool × Bool × Fin 3, xsem k.1 k.2.1 k.2.2 = xsem k'.1 k'.2.1 k'.2.2 → k = k' := by decide

/-- Each transfer semaphore serves its own direction, end and hop. -/
theorem role_xsem (d r : Bool) (h : Fin 3) : roleOf (xsem d r h) = some (d, r, h) := by
  unfold roleOf
  have : (Finset.univ.filter fun k : Bool × Bool × Fin 3 => xsem k.1 k.2.1 k.2.2 = xsem d r h) = {(d, r, h)} := by
    ext k; simp only [Finset.mem_filter, Finset.mem_univ, true_and, Finset.mem_singleton]
    exact ⟨fun e => xsem_inj k (d, r, h) e, fun e => by rw [e]⟩
  rw [this, Finset.toList_singleton]; rfl

/-- The credit of one transfer. -/
abbrev N : ℕ := (slotM false 0).view.dmaCredit
/-- A transfer moves something. -/
theorem N_pos : 0 < N := View.dmaCredit_pos _ (by decide)

/-! ## Contents -/

/-- The staged rows. -/
abbrev xM : Memref sig .tc .vmem S2048x512 .f32 := Memref.whole cc0_stg0_0
/-- The staged router's matrix. -/
abbrev rM : Memref sig .tc .vmem S512x16 .f32 := Memref.whole cc0_stg1_0
/-- The staged words. -/
abbrev iM : Memref sig .tc .vmem S2048x2 .i32 := Memref.whole cc0_stg2_0
/-- The staged experts. -/
abbrev eM : Memref sig .tc .vmem S4x512x1024 .f32 := Memref.whole cc0_stg3_0
/-- The staged output. -/
abbrev oM : Memref sig .tc .vmem S512x1024 .f32 := Memref.whole cc0_stg4_0
/-- The narrowed experts. -/
abbrev wM : Memref sig .tc .vmem S4x512x1024 .bf16 := Memref.whole cc0_scratch0

/-- The rows, the router's matrix, the named experts and the device's experts, as staged on device `c`. -/
def xAt (c : Dev nD) : (cc0_stg0_0 : Ref sig .tc).ty.Contents (Elt F) :=
  (win0_0.blk (0 : Fin 1)).view.read (Elt F) ((s₀ m ρ).mem ((c : Thread nD τ).loc main_arg0))
def rAt (c : Dev nD) : (cc0_stg1_0 : Ref sig .tc).ty.Contents (Elt F) :=
  (win0_1.blk (0 : Fin 1)).view.read (Elt F) ((s₀ m ρ).mem ((c : Thread nD τ).loc main_arg1))
def iAt (c : Dev nD) : (cc0_stg2_0 : Ref sig .tc).ty.Contents (Elt F) :=
  (win0_2.blk (0 : Fin 1)).view.read (Elt F) ((s₀ m ρ).mem ((c : Thread nD τ).loc main_arg2))
def eAt (c : Dev nD) : (cc0_stg3_0 : Ref sig .tc).ty.Contents (Elt F) :=
  (win0_3.blk (0 : Fin 1)).view.read (Elt F) ((s₀ m ρ).mem ((c : Thread nD τ).loc main_arg3))

/-- The device's experts cut to the width they are multiplied at. -/
def wAt (c : Dev nD) : (cc0_scratch0 : Ref sig .tc).ty.Contents (Elt F) := k0_pay3 (eAt m ρ c)

/-- Each chunk of rows fits. -/
theorem row_inb : ∀ (k : Fin 4) (a : Fin 2), (![512 * k.val, 0] : Fin 2 → Nat) a + S512x512.size a ≤ S2048x512.size a := by decide
/-- Each chunk of words fits. -/
theorem idx_inb : ∀ (k : Fin 4) (a : Fin 2), (![512 * k.val, 0] : Fin 2 → Nat) a + S512x2.size a ≤ S2048x2.size a := by decide
/-- Each half of an expert fits. -/
theorem exp_inb : ∀ (d : Bool) (e : Fin 4) (a : Fin 3), (![e.val, 0, bif d then 512 else 0] : Fin 3 → Nat) a + S1x512x512.size a ≤ S4x512x1024.size a := by decide
/-- The router's matrix fits. -/
theorem rtr_inb : ∀ (a : Fin 2), (![0, 0] : Fin 2 → Nat) a + S512x16.size a ≤ S512x16.size a := by decide

/-- The word a device computes its own number as. -/
def me (c : Dev nD) : BitVec 32 := Scalar.remsi (Scalar.divsi (Dev.word c) 1#32) 4#32

/-- The half sum of device `c` for chunk `k` and the half of the columns that direction `d` carries. -/
def part (d : Bool) (k : Fin 4) (c : Dev nD) : FVec F S512x512 .f32 :=
  halfRaw (me c)
    (xM.view.readAt (Elt F) (Rect.unit (s := S2048x512) ![512 * k.val, 0] S512x512.size (row_inb k)).toLoadRect (xAt m ρ c))
    (iM.view.readAt (Elt F) (Rect.unit (s := S2048x2) ![512 * k.val, 0] S512x2.size (idx_inb k)).toLoadRect (iAt m ρ c))
    (rM.view.readAt (Elt F) (Rect.unit (s := S512x16) ![0, 0] S512x16.size rtr_inb).toLoadRect (rAt m ρ c))
    (fun e => wM.view.readAt (Elt F) (Rect.unit (s := S4x512x1024) ![e.val, 0, bif d then 512 else 0] S1x512x512.size (exp_inb d e)).toLoadRect (wAt m ρ c))

set_option backward.proofsInPublic true in
/-- The chunk device `c` adds to at step `s` of direction `d`: clockwise it counts down from the chunk before its own,
    counter-clockwise up from the chunk after; at step 3 it is at its own. -/
def chunkAt (d : Bool) (s : Fin 4) (c : Dev nD) : Fin 4 :=
  ⟨bif d then (c.val + s.val + 1) % 4 else (c.val + 7 - s.val) % 4, by cases d <;> exact Nat.mod_lt _ (by decide)⟩

/-- What device `c` sends at hop `h` of direction `d`: at the first hop its own half sum, later what it received at the
    hop before with its own added. -/
def sent (d : Bool) : ℕ → Dev nD → FVec F S512x512 .bf16
  | 0, c => packOf (part m ρ d (chunkAt d 0 c) c)
  | h + 1, c => packOf (joinOf (sent d h (fro d c)) (part m ρ d (chunkAt d (Fin.ofNat 4 (h + 1)) c) c))

/-- The half of its own chunk that device `c` ends with: what the last hop brought with its own half sum added. -/
def total (d : Bool) (c : Dev nD) : FVec F S512x512 .f32 :=
  joinOf (sent m ρ d 2 (fro d c)) (part m ρ d (chunkAt d 3 c) c)

/-! ## The schedule -/

/-- The three landing slots of direction `d` on device `c`, at any contents. -/
def slots (d : Bool) (c : Dev nD) : sProp 𝕄 :=
  bigSep Finset.univ fun h : Fin 3 => iprop(∃ v, owns (Ix := Unit) (Name := ℕ) (U := UU) (Lvl := ℕ) (c : Thread nD τ) (slotM d h) fullShare v)

/-- The send buffer of direction `d`, holding `v`. -/
def sndPts (d : Bool) (c : Dev nD) (v : FVec F S512x512 .bf16) : sProp 𝕄 := owns (c : Thread nD τ) (sndM d) fullShare v
/-- Slot `h` of the landing buffer of direction `d`, holding `v`. -/
def slotPts (d : Bool) (h : Fin 3) (c : Dev nD) (v : FVec F S512x512 .bf16) : sProp 𝕄 := owns (c : Thread nD τ) (slotM d h) fullShare v

/-- What a barrier duty hands over: the neighbour in direction `b` gives its slots of that direction. -/
def barPay (b : Bool) (c : Dev nD) : sProp 𝕄 := slots b (peer b c)
/-- What a transfer's duty hands over: at the sender its send buffer back, at the receiver the slot with what was sent. -/
def xPay (d r : Bool) (h : Fin 3) (c : Dev nD) : sProp 𝕄 :=
  if r then slotPts d h c (sent m ρ d h.val (fro d c)) else sndPts d c (sent m ρ d h.val c)

/-- The send end pays back the send buffer. -/
theorem xPay_send (d : Bool) (h : Fin 3) (c : Dev nD) : xPay m ρ d false h c = sndPts d c (sent m ρ d h.val c) := rfl
/-- The receive end pays the filled slot. -/
theorem xPay_recv (d : Bool) (h : Fin 3) (c : Dev nD) : xPay m ρ d true h c = slotPts d h c (sent m ρ d h.val (fro d c)) := rfl

/-- What a transfer semaphore pays, by its role. -/
def rolePay (k : Option (Bool × Bool × Fin 3)) (c : Dev nD) : sProp 𝕄 :=
  match k with
  | some k => xPay m ρ k.1 k.2.1 k.2.2 c
  | none => iprop(emp)

/-- One round: a barrier cell has two duties of one unit, a transfer's cell one duty of the transfer's credit. -/
def sched : Rounds.Schedule (GSem nD τ sig) Bool 𝕄 where
  duties g r := if r = 0 ∧ g.1.2 = .tc then (match g.2 with | .reg _ => Finset.univ | .dma q => if (roleOf q).isSome then {false} else ∅) else ∅
  unitless _ := False
  amount g _ _ := match g.2 with | .reg _ => 1 | .dma _ => N
  payload g _ b := match g.2 with | .reg _ => barPay b g.1.1 | .dma q => rolePay m ρ (roleOf q) g.1.1
  amount_pos g _ _ _ := by
    obtain ⟨_, s⟩ := g
    cases s
    · exact Nat.one_pos
    · exact N_pos

instance slots_storable (d : Bool) (c : Dev nD) : BI.Storable (upEmb : UEmb _ 𝕄) (slots (F := F) d c) := by unfold slots; infer_instance
instance slotPts_storable (d : Bool) (h : Fin 3) (c : Dev nD) (v : FVec F S512x512 .bf16) : BI.Storable (upEmb : UEmb _ 𝕄) (slotPts d h c v) := by unfold slotPts; infer_instance
instance sndPts_storable (d : Bool) (c : Dev nD) (v : FVec F S512x512 .bf16) : BI.Storable (upEmb : UEmb _ 𝕄) (sndPts d c v) := by unfold sndPts; infer_instance
instance xPay_storable (d r : Bool) (h : Fin 3) (c : Dev nD) : BI.Storable (upEmb : UEmb _ 𝕄) (xPay m ρ d r h c) := by
  unfold xPay; split <;> infer_instance
instance rolePay_storable (k : Option (Bool × Bool × Fin 3)) (c : Dev nD) : BI.Storable (upEmb : UEmb _ 𝕄) (rolePay m ρ k c) := by
  unfold rolePay; split <;> infer_instance

instance sched_storable (g : GSem nD τ sig) (r : ℕ) (b : Bool) : BI.Storable (upEmb : UEmb _ 𝕄) ((sched (F := F) m ρ).payload g r b) := by
  obtain ⟨t, s⟩ := g
  cases s
  · show BI.Storable upEmb (barPay b t.1); unfold barPay; infer_instance
  · exact rolePay_storable m ρ _ _

section Sched
variable (c : Dev nD) (d r : Bool) (h : Fin 3)

/-- The barrier is owed a payment by both neighbours. -/
theorem duties_bar : (sched (F := F) m ρ).duties (barCell c) 0 = Finset.univ := by
  dsimp only [sched]; exact if_pos ⟨rfl, rfl⟩
/-- A transfer's semaphore is owed one payment. -/
theorem duties_x : (sched (F := F) m ρ).duties (xCell d r h c) 0 = {false} := by
  dsimp only [sched]
  rw [role_xsem]; exact if_pos ⟨rfl, rfl⟩
/-- Nothing is owed after the first round. -/
theorem duties_later (g : GSem nD τ sig) : ∀ r, 1 ≤ r → (sched (F := F) m ρ).duties g r = ∅ :=
  fun r hr => by dsimp only [sched]; exact if_neg fun h => by omega
/-- The barrier expects two. -/
theorem expect_bar : (sched (F := F) m ρ).expect (barCell c) 0 = 2 := by
  unfold Schedule.expect Schedule.amountOf; rw [duties_bar]; rfl
/-- A transfer's semaphore expects one transfer's credit. -/
theorem expect_x : (sched (F := F) m ρ).expect (xCell d r h c) 0 = N := by
  unfold Schedule.expect Schedule.amountOf; rw [duties_x, Finset.sum_singleton]; rfl
/-- What the barrier's payments hand over. -/
theorem payload_bar (b : Bool) : (sched (F := F) m ρ).payload (barCell c) 0 b = barPay b c := rfl
/-- What a transfer's payment hands over. -/
theorem payload_x (b : Bool) : (sched (F := F) m ρ).payload (xCell d r h c) 0 b = xPay m ρ d r h c := by
  show rolePay m ρ (roleOf (xsem d r h)) c = _
  rw [role_xsem]; rfl

/-- What the barrier's round hands over: the slots both neighbours give. -/
theorem rest_bar : bigSep ((sched (F := F) m ρ).duties (barCell c) 0 \ ∅) (fun b => (sched (F := F) m ρ).payload (barCell c) 0 b)
    = iprop(slots false (peer false c) ∗ slots true (peer true c)) := by
  rw [Finset.sdiff_empty, duties_bar, bigSep_univ_eq_bigSepL [false, true] (by decide) (by decide), bigSepL_cons_cons, bigSepL_singleton]
  rfl
/-- What a transfer's round hands over. -/
theorem rest_x : bigSep ((sched (F := F) m ρ).duties (xCell d r h c) 0 \ ∅) (fun b => (sched (F := F) m ρ).payload (xCell d r h c) 0 b) = xPay m ρ d r h c := by
  rw [Finset.sdiff_empty, duties_x, bigSep_singleton, payload_x]

end Sched

/-! ## What each device owes; the levels -/

/-- What a device still owes with `n` hops to come: for each of them both transfers' credit. -/
def owing (c : Dev nD) : ℕ → CellTallies nD τ sig Unit
  | 0 => 0
  | n + 1 => owing c n + tallyAt (xCell true true (Fin.ofNat 3 (2 - n)) (peer true c)) () N
      + tallyAt (xCell false true (Fin.ofNat 3 (2 - n)) (peer false c)) () N

/-- What a device owes at launch: the transfers of three hops, and a unit to each neighbour's barrier. -/
def O₁ (c : Dev nD) : CellTallies nD τ sig Unit := owing c 3 + tallyAt (barCell (peer false c)) () 1
/-- All a device owes at the start. -/
def O₀ (c : Dev nD) : CellTallies nD τ sig Unit := O₁ c + tallyAt (barCell (peer true c)) () 1

/-- The one label of a core's semaphores. -/
def L (g : GSem nD τ sig) : Finset Unit := if g.1.2 = .tc then {()} else ∅
/-- The level of a transfer semaphore, by its role. -/
def roleLv (k : Option (Bool × Bool × Fin 3)) : ℕ :=
  match k with
  | some (_, true, h) => 2 + h.val
  | _ => 0
/-- Barrier cells at 1, receive cells of hop `h` at `2 + h`, the rest at 0. -/
def lv (g : GSem nD τ sig) (_ : Unit) : ℕ := match g.2 with | .reg _ => 1 | .dma q => roleLv (roleOf q)

/-- Only the core's own thread has labels. -/
theorem L_of_ne (g : GSem nD τ sig) (h : g.1.2 ≠ .tc) : L g = ∅ := if_neg h
/-- The label of the core's thread. -/
theorem L_tc (c : Dev nD) (sm : SemLoc sig) : L ((c : Thread nD τ), sm) = {()} := if_pos rfl
/-- The level of a receive end grows with the hop. -/
theorem lv_recv (d : Bool) (h : Fin 3) (c : Dev nD) : lv (xCell d true h c) () = 2 + h.val := by
  show roleLv (roleOf (xsem d true h)) = _; rw [role_xsem]; rfl
/-- The level of a send end is the lowest. -/
theorem lv_send (d : Bool) (h : Fin 3) (c : Dev nD) : lv (xCell d false h c) () = 0 := by
  show roleLv (roleOf (xsem d false h)) = _; rw [role_xsem]; rfl

/-- With `n ≤ 3` hops to come only receive cells of those hops are owed. -/
theorem owing_pos {c : Dev nD} {g : GSem nD τ sig} {u : Unit} : ∀ {n : ℕ}, n ≤ 3 → 0 < owing c n g u →
    ∃ d h, g = xCell d true h (peer d c) ∧ 3 - n ≤ h.val
  | 0, _, hp => absurd hp (Nat.lt_irrefl 0)
  | n + 1, hn, hp => by
    unfold owing at hp
    rw [Pi.add_apply, Finsupp.add_apply, Pi.add_apply, Finsupp.add_apply, tallyAt_apply, tallyAt_apply] at hp
    have hv : (Fin.ofNat 3 (2 - n)).val = 2 - n := Nat.mod_eq_of_lt (by omega)
    by_cases h1 : g = xCell true true (Fin.ofNat 3 (2 - n)) (peer true c)
    · exact ⟨true, _, h1, by omega⟩
    by_cases h2 : g = xCell false true (Fin.ofNat 3 (2 - n)) (peer false c)
    · exact ⟨false, _, h2, by omega⟩
    rw [if_neg (fun h => h1 h.1), if_neg (fun h => h2 h.1)] at hp
    obtain ⟨d, h, e, hh⟩ := owing_pos (n := n) (by omega) hp
    exact ⟨d, h, e, by omega⟩

/-- What a device owes lies at its neighbours: their receive ends or their barriers. -/
theorem O₀_pos {c : Dev nD} {g : GSem nD τ sig} {u : Unit} (hp : 0 < O₀ c g u) :
    (∃ d h, g = xCell d true h (peer d c)) ∨ ∃ d, g = barCell (peer d c) := by
  have hw (h : 0 < owing c 3 g u) := owing_pos (n := 3) le_rfl h
  unfold O₀ O₁ at hp
  generalize owing c 3 = w at hp hw
  rw [Pi.add_apply, Finsupp.add_apply, Pi.add_apply, Finsupp.add_apply, tallyAt_apply, tallyAt_apply] at hp
  by_cases h1 : g = barCell (peer false c)
  · exact .inr ⟨_, h1⟩
  by_cases h2 : g = barCell (peer true c)
  · exact .inr ⟨_, h2⟩
  rw [if_neg (fun h => h1 h.1), if_neg (fun h => h2 h.1)] at hp
  obtain ⟨d, h, e, -⟩ := hw hp
  exact .inl ⟨d, h, e⟩

/-- With `n` hops to come a device may wait on any cell of a level below the receive cells of those hops. -/
theorem mayWait_owing (c : Dev nD) (sm : SemLoc sig) (n : ℕ) (hn : n ≤ 3) (hl : lv ((c : Thread nD τ), sm) () < 2 + (3 - n)) :
    (levAts L lv : sProp 𝕄) ⊢ MayWait (c : Thread nD τ) sm () (owing c n) :=
  MayOwe.of_cut (L := L) (lev := lv) (lv ((c : Thread nD τ), sm) ())
    (fun p hp => by rw [Finset.mem_singleton.mp hp, L_tc]; exact Finset.mem_singleton_self _)
    (fun g u hg => by obtain ⟨d, h, rfl, -⟩ := owing_pos hn hg; exact Finset.mem_singleton_self _)
    (fun p hp => by rw [Finset.mem_singleton.mp hp])
    (fun g u hg => by obtain ⟨d, h, rfl, hh⟩ := owing_pos hn hg; rw [lv_recv]; omega)

/-- On a cell of level zero a device may wait even owing all it owes at launch. -/
theorem mayWait_start (c : Dev nD) (sm : SemLoc sig) (hl : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0
      (fun p hp => by rw [Finset.mem_singleton.mp hp, L_tc]; exact Finset.mem_singleton_self _)
      (fun g u hg => by rcases O₀_pos hg with ⟨d, h, rfl⟩ | ⟨d, rfl⟩ <;> exact Finset.mem_singleton_self _)
      (fun p hp => by rw [Finset.mem_singleton.mp hp, hl])
      (fun g u hg => by
        rcases O₀_pos hg with ⟨d, h, rfl⟩ | ⟨d, rfl⟩
        · rw [lv_recv]; omega
        · exact Nat.one_pos)
  · rw [MayWait_zero]; iintro -; iempintro

end Cert.Moe

end
-- ==== Proof.Steps.lean ====
/-
# One step of the ring at a time

The rules by which a device takes a step: signal a neighbour, start a transfer, wait for one, read a landing slot. Each
is stated once, for a direction, an end and a hop; the invariants and the reached rounds of all cells of the ring are
kept as one fact, `records`, from which each step takes the ones it needs. The set of waits a device has done is
hidden in `owesX`.
-/
module

public import proofs.«01_k».proof.Proof.Ring

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No variants are used. -/
abbrev 𝒱₀ : Variants := Variants.none

/-! ## What every device knows and holds -/

/-- Every cell of the ring under its invariant. -/
def invs (K : Dev nD × Cell → ℕ) : sProp 𝕄 :=
  bigSep Finset.univ fun ck : Dev nD × Cell => cellInv ER (sched m ρ) (K ck) (kcell ck)
/-- Every cell of the ring at its only round. -/
def starts : sProp 𝕄 := bigSep Finset.univ fun ck : Dev nD × Cell => reached ER (kcell ck) 0
/-- What every device knows: the invariants and that each first round has begun. -/
def records (K : Dev nD × Cell → ℕ) : sProp 𝕄 := iprop(invs m ρ K ∗ starts)

instance invs_persistent (K : Dev nD × Cell → ℕ) : BI.Persistent (invs (F := F) m ρ K) := by unfold invs; infer_instance
instance starts_persistent : BI.Persistent (starts (F := F)) := by unfold starts; infer_instance
instance records_persistent (K : Dev nD × Cell → ℕ) : BI.Persistent (records (F := F) m ρ K) := by unfold records; infer_instance

/-- One invariant of them all. -/
theorem inv_at (K : Dev nD × Cell → ℕ) (ck : Dev nD × Cell) :
    (invs m ρ K : sProp 𝕄) ⊢ cellInv ER (sched m ρ) (K ck) (kcell ck) := bigSep_elim (Finset.mem_univ ck)
/-- One first round of them all. -/
theorem start_at (ck : Dev nD × Cell) : (starts : sProp 𝕄) ⊢ reached ER (kcell ck) 0 := bigSep_elim (Finset.mem_univ ck)

/-- What a device holds of one hop's transfers in direction `d`: its own two cells unread, and the tokens to pay its
    send cell and the next device's receive cell. -/
def hop (d : Bool) (h : Fin 3) (c : Dev nD) : sProp 𝕄 :=
  iprop(atPos ER (xCell d false h c) 0 ∅ 0 ∗ atPos ER (xCell d true h c) 0 ∅ 0
    ∗ dutyTok ER (xCell d false h c) 0 false ∗ dutyTok ER (xCell d true h (peer d c)) 0 false)

/-- The tallies `O` owed, the waits done so far left open. -/
def owesX (c : Dev nD) (O : CellTallies nD τ sig Unit) : sProp 𝕄 := iprop(∃ W : Waits sig Unit, owes (c : Thread nD τ) O W)

/-- Slot `h` of the landing buffer of direction `d`, at any contents. -/
def slotAny (d : Bool) (h : Fin 3) (c : Dev nD) : sProp 𝕄 := iprop(∃ v, slotPts d h c v)

/-- The three slots, one by one. -/
theorem slots_three (d : Bool) (c : Dev nD) : (slots d c : sProp 𝕄) = iprop(slotAny d 0 c ∗ slotAny d 1 c ∗ slotAny d 2 c) :=
  bigSep_univ_eq_bigSepL [0, 1, 2] (by decide) (by decide) _

/-! ## Signal and wait on the barrier -/

/-- The signal to a neighbour's barrier hands over this device's slots of that direction. -/
theorem wp_knock (K : Dev nD × Cell → ℕ) (b : Bool) (c n : Dev nD) (hn : n = fro b c) (O : CellTallies nD τ sig Unit)
    {α : Type} {Q : α → sProp 𝕄} {k : PUnit → Prog (TpuEff nD τ sig (Elt F) Λ₀ .tc) α} :
    iprop(records m ρ K ∗ owesX c (O + tallyAt (barCell (fro b c)) () 1) ∗ dutyTok ER (barCell (fro b c)) 0 b ∗ slots b c)
      ⊢ iprop((owesX c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold records owesX
  iintro ⟨⟨#HI, #HR⟩, ⟨%W, HO⟩, Ht, Hs⟩ Hk
  iapply (Rounds.wp_signal 𝒱₀ ER (sched m ρ) (c : Thread nD τ) none (dst := (fro b c : Thread nD τ)) (κ := K (fro b c, none))
      (d := b) (by rw [duties_bar]; exact Finset.mem_univ _) rfl () O rfl) $$ [HO Ht Hs]
  · isplitr; · iapply (inv_at m ρ K (fro b c, none)); iexact HI
    isplitl [HO]; · iexact HO
    isplitl [Ht]; · iexact Ht
    isplitl [Hs]
    · rw [payload_bar]; unfold barPay; rw [peer_fro]; iexact Hs
    · iapply (start_at (F := F) (fro b c, none)); iexact HR
  iintro HO
  iapply Hk; iexists W; iexact HO

/-- The wait for both neighbours' signals: their landing slots come with it, and the barrier cell closes. -/
theorem wp_meet (K : Dev nD × Cell → ℕ) (c : Dev nD)
    {α : Type} {Q : α → sProp 𝕄} {k : PUnit → Prog (TpuEff nD τ sig (Elt F) Λ₀ .tc) α} :
    iprop(records m ρ K ∗ owesX c (owing c 3) ∗ levAts L lv ∗ cred (tallyAt (barCell c) () 2) ∗ atPos ER (barCell c) 0 ∅ 0)
      ⊢ iprop((iprop(owesX c (owing c 3) ∗ semVal (barCell c) 0 ∗ slots false (peer false c) ∗ slots true (peer true c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  unfold records owesX
  iintro ⟨⟨#HI, -⟩, ⟨%W, HO⟩, #Hlev, Hc, Hat⟩ Hk
  ihave #Hi := (inv_at m ρ K (c, none)) $$ HI
  iapply (Rounds.wp_wait_rest_token 𝒱₀ ER (sched m ρ) (c : Thread nD τ) none (κ := K (c, none))
      (wpE_semWait_eq 𝒱₀ (c : Thread nD τ) none Set.univ) (Set.mem_univ _) () (O := owing c 3) (W := W) (R := 0) (m := 0) (T := ∅)
      (by rw [expect_bar])) $$ [Hc HO Hat]
  · isplitr; · iexact Hi
    isplitl [Hc]; · iexact Hc
    isplitl [HO]; · iexact HO
    isplitr; · iapply (mayWait_owing c (.reg barS) 3 le_rfl Nat.one_lt_two); iexact Hlev
    iexact Hat
  iintro ⟨HO, Hat, -, Hpay⟩
  imod (Rounds.cell_close ER (sched m ρ) (Set.mem_univ (K (c, none))) (fun h => h) (R := 0 + 1) (duties_later m ρ (barCell c))) $$ [Hat] with Hz
  · isplitr; · iexact Hi
    iexact Hat
  iapply Hk
  isplitl [HO]; · iexists _; iexact HO
  isplitl [Hz]; · iexact Hz
  iapply (Entails.of_eq (rest_bar m ρ c)); iexact Hpay

/-! ## Start a transfer, wait for one -/

/-- A slot's transfer is worth the same in every direction and hop. -/
theorem amount_slot (d : Bool) (h : Fin 3) : (slotM d h).view.amount (.dma (xsem d true h)) = N := by cases d <;> rfl

/-- Hop `h` of direction `d` started: the send buffer goes to the next device's slot `h`. -/
theorem wp_push (K : Dev nD × Cell → ℕ) (d : Bool) (h : Fin 3) (c n : Dev nD) (hn : n = peer d c)
    (O : CellTallies nD τ sig Unit)
    {hsc : (slotM d h : Memref sig (Dev.tc n : Thread nD τ).2.kind .vmem S512x512 .bf16).view.ref.isScScratch = false}
    {hsrc : (sndM d : Memref sig .tc .vmem S512x512 .bf16).view.WordExact} {hdst : (slotM d h : Memref sig .tc .vmem S512x512 .bf16).view.WordExact}
    {hsem : DmaTarget.Typed .vmem (.dma (xsem d true h)) (.remote (Dev.tc n : Thread nD τ) (slotM d h : Memref sig .tc .vmem S512x512 .bf16) (.dma (xsem d false h)) hsc)}
    {α : Type} {Q : α → sProp 𝕄} {k : PUnit → Prog (TpuEff nD τ sig (Elt F) Λ₀ .tc) α} :
    iprop(records m ρ K ∗ sndPts d c (sent m ρ d h.val c)
        ∗ slotAny d h (peer d c)
        ∗ owesX c (O + tallyAt (xCell d true h (peer d c)) () N)
        ∗ dutyTok ER (xCell d false h c) 0 false ∗ dutyTok ER (xCell d true h (peer d c)) 0 false)
      ⊢ iprop((iprop(cred (tallyAt (xCell d false h c) () N) ∗ owesX c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndM d) (.remote (Dev.tc n : Thread nD τ) (slotM d h) (.dma (xsem d false h)) hsc) (.dma (xsem d true h)) hsrc hdst hsem) k) Q) := by
  subst hn
  unfold records owesX sndPts slotAny slotPts owns
  iintro ⟨⟨#HI, #HR⟩, ⟨%fs, %hs, Hs⟩, ⟨%v, %fd, %hd, Hd⟩, ⟨%W, HO⟩, Ht1, Ht2⟩ Hk
  iapply (Rounds.wp_send_pointsTo 𝒱₀ ER (sched m ρ) (c : Thread nD τ) none (κ₁ := K (c, some (d, false, h))) (κ₂ := K (peer d c, some (d, true, h)))
    (r₁ := 0) (r₂ := 0) (d₁ := false) (d₂ := false) (fd := fd)
    (by rw [duties_x m ρ c d false h]; exact Finset.mem_singleton_self _) (by rw [duties_x m ρ (peer d c) d true h]; exact Finset.mem_singleton_self _)
    () () N (amount_slot d h) rfl rfl O rfl (W := W)
    (by rw [payload_x m ρ c d false h]; unfold xPay sndPts; rw [if_neg Bool.false_ne_true, ← hs]; exact owns_intro _ _ _ _)
    (by rw [payload_x m ρ (peer d c) d true h]; unfold xPay slotPts; rw [if_pos rfl, fro_peer, ← hs]
        exact (owns_intro _ _ _ _).trans (Entails.of_eq (by rw [View.read_write_univ])))) $$ [Hs Hd HO Ht1 Ht2]
  · isplitr; · iapply (inv_at m ρ K (c, some (d, false, h))); iexact HI
    isplitr; · iapply (inv_at m ρ K (peer d c, some (d, true, h))); iexact HI
    isplitl [Hs]; · iexact Hs
    isplitl [Hd]; · iexact Hd
    isplitl [HO]; · iexact HO
    isplitl [Ht1]; · iexact Ht1
    isplitr; · iapply (start_at (F := F) (c, some (d, false, h))); iexact HR
    isplitl [Ht2]; · iexact Ht2
    iapply (start_at (F := F) (peer d c, some (d, true, h))); iexact HR
  iintro ⟨Hc, HO⟩
  iapply Hk
  isplitl [Hc]; · iexact Hc
  iexists W; iexact HO

/-- The wait for one end of a transfer, with `n` hops to come: what its duty hands over comes with it, and its cell closes. -/
theorem wp_pull (K : Dev nD × Cell → ℕ) (d r : Bool) (h : Fin 3) (c : Dev nD) (n : ℕ) (hn : n + h.val < 3)
    {src dst : Memref sig .tc .vmem S512x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ owesX c (owing c n) ∗ levAts L lv ∗ cred (tallyAt (xCell d r h c) () N) ∗ atPos ER (xCell d r h c) 0 ∅ 0)
      ⊢ iprop((iprop(owesX c (owing c n) ∗ semVal (xCell d r h c) 0 ∗ xPay m ρ d r h c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xsem d r h) src dst hsrc hdst) k) Q) := by
  unfold records owesX
  iintro ⟨⟨#HI, -⟩, ⟨%W, HO⟩, #Hlev, Hc, Hat⟩ Hk
  ihave #Hi := (inv_at m ρ K (c, some (d, r, h))) $$ HI
  iapply (Rounds.wp_wait_rest_token 𝒱₀ ER (sched m ρ) (c : Thread nD τ) none (κ := K (c, some (d, r, h)))
      (wpE_waitDma2_eq 𝒱₀ (c : Thread nD τ) none Set.univ) (Set.mem_univ _) () (O := owing c n) (W := W) (R := 0) (m := 0) (T := ∅)
      (by rw [Nat.zero_add, hN, expect_x m ρ c d r h])) $$ [Hc HO Hat]
  · isplitr; · iexact Hi
    isplitl [Hc]; · iexact Hc
    isplitl [HO]; · iexact HO
    isplitr
    · iapply (mayWait_owing c (.dma (xsem d r h)) n (by omega) (by
        cases r
        · have := lv_send d h c; simp only [xCell] at this; rw [this]; omega
        · have := lv_recv d h c; simp only [xCell] at this; rw [this]; omega))
      iexact Hlev
    iexact Hat
  iintro ⟨HO, Hat, -, Hpay⟩
  imod (Rounds.cell_close ER (sched m ρ) (Set.mem_univ (K (c, some (d, r, h)))) (fun h => h) (R := 0 + 1) (duties_later m ρ (xCell d r h c))) $$ [Hat] with Hz
  · isplitr; · iexact Hi
    iexact Hat
  iapply Hk
  isplitl [HO]; · iexists _; iexact HO
  isplitl [Hz]; · iexact Hz
  iapply (Entails.of_eq (rest_x m ρ c d r h)); iexact Hpay

/-! ## The buffers a device works in -/

/-- The offsets at the origin, two axes. -/
theorem hz2 : (![0, 0] : Fin 2 → Nat) = fun _ => 0 := funext fun a => by fin_cases a <;> rfl
/-- The offsets at the origin, three axes. -/
theorem hz3 : (![0, 0, 0] : Fin 3 → Nat) = fun _ => 0 := funext fun a => by fin_cases a <;> rfl

/-- The whole of a send buffer as a box. -/
abbrev sndBox : Rect S512x512 := Rect.unit (s := S512x512) ![0, 0] S512x512.size inb_S512x512_S512x512_0_0

/-- A send buffer written over whole holds what was written. -/
theorem snd_full (d : Bool) (c : Dev nD) (f : Buf (Elt F) ((sndM d).view.loc (c : Thread nD τ))) (v : FVec F S512x512 .bf16) :
    ((sndM d).view.loc (c : Thread nD τ) ↦{fullShare} (sndM d).view.writes (Elt F) f [⟨sndBox, v⟩] : sProp 𝕄) ⊢ sndPts d c v := by
  unfold sndPts
  cases d
  · rw [owns_whole, View.writes_singleton]
    exact Entails.of_eq (congrArg _ (Memref.write_access_unit_zero_univ (Elt F) cc0_scratch1 hz2 _ f v))
  · rw [owns_whole, View.writes_singleton]
    exact Entails.of_eq (congrArg _ (Memref.write_access_unit_zero_univ (Elt F) cc0_scratch2 hz2 _ f v))

/-- A send buffer held, whatever it holds. -/
theorem snd_any (d : Bool) (c : Dev nD) (v : FVec F S512x512 .bf16) :
    (sndPts d c v : sProp 𝕄) ⊢ iprop(∃ f : Buf (Elt F) ((sndM d).view.loc (c : Thread nD τ)), (sndM d).view.loc (c : Thread nD τ) ↦{fullShare} f) := by
  unfold sndPts
  cases d
  · rw [owns_whole]; iintro H; iexists _; iexact H
  · rw [owns_whole]; iintro H; iexists _; iexact H

/-- The experts' buffer written over whole. -/
theorem exp_full (c : Dev nD) (f : Buf (Elt F) (wM.view.loc (c : Thread nD τ))) (w : FVec F S4x512x1024 .bf16) (h) :
    (wM.access (Rect.unit (s := S4x512x1024) ![0, 0, 0] S4x512x1024.size h) : View sig .tc _ _ _).write (Elt F) f w Finset.univ = w :=
  Memref.write_access_unit_zero_univ (Elt F) cc0_scratch0 hz3 _ f w
/-- Reading the staged experts whole. -/
theorem exp_read (f : (cc0_stg3_0 : Ref sig .tc).ty.Contents (Elt F)) (h) :
    eM.view.readAt (Elt F) (Rect.unit (s := S4x512x1024) ![0, 0, 0] S4x512x1024.size h).toLoadRect f = f :=
  Memref.readAt_unit_zero (Elt F) cc0_stg3_0 hz3 _ f

/-- The half sum at the places the kernel reads, however it computed them. -/
theorem part_at (d : Bool) (k : Fin 4) (c : Dev nD) (o o' : Fin 2 → ℕ) (ho : o = ![512 * k.val, 0]) (ho' : o' = ![512 * k.val, 0]) (h) (h') :
    part m ρ d k c = halfRaw (me c)
      (xM.view.readAt (Elt F) (Rect.unit (s := S2048x512) o S512x512.size h).toLoadRect (xAt m ρ c))
      (iM.view.readAt (Elt F) (Rect.unit (s := S2048x2) o' S512x2.size h').toLoadRect (iAt m ρ c))
      (rM.view.readAt (Elt F) (Rect.unit (s := S512x16) ![0, 0] S512x16.size rtr_inb).toLoadRect (rAt m ρ c))
      (fun e => wM.view.readAt (Elt F) (Rect.unit (s := S4x512x1024) ![e.val, 0, bif d then 512 else 0] S1x512x512.size (exp_inb d e)).toLoadRect (wAt m ρ c)) := by
  subst ho ho'; rfl

/-! ## The landing slots -/

/-- A slot's places within the landing buffer. -/
theorem slot_set (d : Bool) (h : Fin 3) : (slotM d h).view.set = (slotR h).set.map (bufM d).view.emb :=
  (View.set_reshape _ _).trans (View.set_slice _ _)

/-- Different slots share no place. -/
theorem slotR_disjoint (h h' : Fin 3) (hne : h ≠ h') : Disjoint (slotR h).set (slotR h').set := by
  rw [Finset.disjoint_left]
  intro i hi hi'
  have e := (Rect.mem_set_unit.mp hi) 0
  have e' := (Rect.mem_set_unit.mp hi') 0
  have a : h.val ≤ (i 0).val ∧ (i 0).val < h.val + 1 := e
  have a' : h'.val ≤ (i 0).val ∧ (i 0).val < h'.val + 1 := e'
  exact hne (Fin.ext (by omega))

/-- The slots cover the buffer. -/
theorem slotR_cover : Finset.univ.biUnion (fun h : Fin 3 => (slotR h).set) = Finset.univ := by
  ext i
  simp only [Finset.mem_biUnion, Finset.mem_univ, true_and, iff_true]
  have h0 : (i 0).val < 3 := (i 0).isLt
  have h1 : (i 1).val < 512 := (i 1).isLt
  have h2 : (i 2).val < 512 := (i 2).isLt
  refine ⟨⟨(i 0).val, h0⟩, Rect.mem_set_unit.mpr fun a => ?_⟩
  match a with
  | ⟨0, _⟩ => exact ⟨le_rfl, Nat.lt_succ_self _⟩
  | ⟨1, _⟩ => exact ⟨Nat.zero_le _, by simpa using h1⟩
  | ⟨2, _⟩ => exact ⟨Nat.zero_le _, by simpa using h2⟩

/-- Different slots share no place, in either landing buffer. -/
theorem slots_disjoint (d : Bool) : ∀ h ∈ (Finset.univ : Finset (Fin 3)), ∀ h' ∈ (Finset.univ : Finset (Fin 3)), h ≠ h' →
    Disjoint (slotM d h).view.set (slotM d h').view.set := fun h _ h' _ hne => by
  rw [slot_set, slot_set, Finset.disjoint_map]; exact slotR_disjoint h h' hne

/-- The slots cover either landing buffer. -/
theorem slots_cover (d : Bool) : Finset.univ.biUnion (fun h : Fin 3 => (slotM d h).view.set) = (bufM d).view.set := by
  have e : (fun h : Fin 3 => (slotM d h).view.set) = fun h => (slotR h).set.map (bufM d).view.emb := funext (slot_set d)
  rw [e]
  ext x
  simp only [Finset.mem_biUnion, Finset.mem_univ, true_and, Finset.mem_map, View.set]
  constructor
  · rintro ⟨h, i, -, e⟩; exact ⟨i, e⟩
  · rintro ⟨i, e⟩
    obtain ⟨h, -, hi⟩ := Finset.mem_biUnion.mp (slotR_cover ▸ Finset.mem_univ i)
    exact ⟨h, i, hi, e⟩

/-- The landing buffer of direction `d`, at any contents. -/
def land (d : Bool) (c : Dev nD) : sProp 𝕄 :=
  iprop(∃ f : Buf (Elt F) ((bufM d).view.loc (c : Thread nD τ)), (bufM d).view.loc (c : Thread nD τ) ↦[(bufM d).view.set]{fullShare} f)

/-- Holding the three slots is holding the landing buffer. -/
theorem land_eq (d : Bool) (c : Dev nD) : (land d c : sProp 𝕄)
    = iprop(∃ f : Buf (Elt F) ((c : Thread nD τ).loc (bufR d)), ((c : Thread nD τ).loc (bufR d)) ↦{fullShare} f) := by
  unfold land
  cases d <;> simp only [Memref.view_whole, View.set_whole]

/-- The landing buffer taken apart into its slots. -/
theorem land_slots (d : Bool) (c : Dev nD) : (land d c : sProp 𝕄) ⊢ slots d c := by
  unfold land slots
  iintro ⟨%f, H⟩
  rw [← slots_cover, pointsTo_biUnion _ _ (slots_disjoint d)]
  have e (h : Fin 3) : ((bufM d).view.loc (c : Thread nD τ) ↦[(slotM d h).view.set]{fullShare} f : sProp 𝕄)
      ⊢ iprop(∃ v, owns (Ix := Unit) (Name := ℕ) (U := UU) (Lvl := ℕ) (c : Thread nD τ) (slotM d h) fullShare v) := by
    iintro H; iexists _; iapply (owns_intro (c : Thread nD τ) (slotM d h) fullShare f); iexact H
  exact bigSep_mono fun h _ => e h

/-- The slots put together again. -/
theorem slots_land (d : Bool) (c : Dev nD) : (slots d c : sProp 𝕄) ⊢ land d c := by
  unfold land slots
  have e (h : Fin 3) : iprop(∃ v, owns (Ix := Unit) (Name := ℕ) (U := UU) (Lvl := ℕ) (c : Thread nD τ) (slotM d h) fullShare v)
      ⊢ (iprop(∃ f : Buf (Elt F) ((bufM d).view.loc (c : Thread nD τ)), (bufM d).view.loc (c : Thread nD τ) ↦[(slotM d h).view.set]{fullShare} f) : sProp 𝕄) := by
    unfold owns; iintro ⟨%v, %f, -, H⟩; iexists f; iexact H
  have e' : (bigSep Finset.univ fun h : Fin 3 => iprop(∃ v, owns (Ix := Unit) (Name := ℕ) (U := UU) (Lvl := ℕ) (c : Thread nD τ) (slotM d h) fullShare v))
      ⊢ (bigSep Finset.univ fun h : Fin 3 => iprop(∃ f : Buf (Elt F) ((bufM d).view.loc (c : Thread nD τ)), (bufM d).view.loc (c : Thread nD τ) ↦[(slotM d h).view.set]{fullShare} f) : sProp 𝕄) :=
    bigSep_mono fun h _ => e h
  iintro H
  ihave H := e' $$ H
  ihave H := (bigSep_exists_pi Finset.univ fun (h : Fin 3) (f : Buf (Elt F) ((bufM d).view.loc (c : Thread nD τ))) =>
    iprop((bufM d).view.loc (c : Thread nD τ) ↦[(slotM d h).view.set]{fullShare} f)) $$ H
  icases H with ⟨%fs, H⟩
  ihave H := (pointsTo_biUnion_join Finset.univ (fun h => (slotM d h).view.set) fs (fs 0) (slots_disjoint d)) $$ H
  icases H with ⟨%g, -, H⟩
  iexists g
  rw [← slots_cover]; iexact H

/-- A landing slot read: what it holds, under the slot's shape. -/
theorem wp_take (d : Bool) (h : Fin 3) (c : Dev nD) (v : FVec F S512x512 .bf16)
    {hl : (bufM d : Memref sig .tc .vmem S3x512x512 .bf16).view.LoadsAt (slotR h).toLoadRect}
    {α : Type} {Q : α → sProp 𝕄} {k : (S1x512x512.Idx → Elt F .bf16) → Prog (TpuEff nD τ sig (Elt F) Λ₀ .tc) α} :
    slotPts d h c v
      ⊢ iprop((slotPts d h c v -∗ (∀ w, ⌜shapeCast S512x512 w shapeCasts_S1x512x512_S512x512 = v⌝ -∗ wp frame (wpE (defs₀ (F := F)) 𝒱₀ (c : Thread nD τ) none) Set.univ (k w) Q))
          -∗ wp frame (wpE (defs₀ (F := F)) 𝒱₀ (c : Thread nD τ) none) Set.univ (.op (.load (bufM d) (slotR h).toLoadRect hl) k) Q) := by
  unfold slotPts owns
  iintro ⟨%f, %hf, H⟩ Hk
  iapply (wp_load 𝒱₀ (c : Thread nD τ) none Set.univ (m := bufM d) (r := (slotR h).toLoadRect) (by rw [slot_set]; exact Finset.Subset.refl _)) $$ H
  iintro H
  iapply Hk $$ [H]
  · iexists f; isplitr; · (ipureintro; exact hf)
    iexact H
  ipureintro
  rw [← hf]; rfl

end Cert.Moe

end
-- ==== Proof.Body.lean ====
/-
# The body on one device

The kernel's body run once, on any device of the ring: from what a device holds at the start (its staged operands, its
scratch, its tokens and credit) to the two halves of its chunk of the result, every transfer done and every semaphore
back at zero.
-/
module

public import proofs.«01_k».proof.Proof.Steps

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A returned value goes straight on. -/
theorem Prog.ret_bind_unit {E : Type → Type} {α β : Type} (a : α) (k : α → Prog E β) : (Prog.ret a).bind k = k a := rfl

/-- A transfer's or signal's target is the neighbour in its direction. -/
theorem dev1_eq (c : Dev nD) : (⟨k0_dev1 c, k0_dev1_lt c⟩ : Dev nD) = peer true c := Fin.ext (k0_dev1_eq c)
/-- A transfer's or signal's target is the neighbour in its direction. -/
theorem dev2_eq (c : Dev nD) : (⟨k0_dev2 c, k0_dev2_lt c⟩ : Dev nD) = peer false c := Fin.ext (k0_dev2_eq c)
/-- A transfer's or signal's target is the neighbour in its direction. -/
theorem dev3_eq (c : Dev nD) : (⟨k0_dev3 c, k0_dev3_lt c⟩ : Dev nD) = peer false c := Fin.ext (k0_dev3_eq c)
/-- A transfer's or signal's target is the neighbour in its direction. -/
theorem dev4_eq (c : Dev nD) : (⟨k0_dev4 c, k0_dev4_lt c⟩ : Dev nD) = peer true c := Fin.ext (k0_dev4_eq c)
/-- A transfer's or signal's target is the neighbour in its direction. -/
theorem dev5_eq (c : Dev nD) : (⟨k0_dev5 c, k0_dev5_lt c⟩ : Dev nD) = peer false c := Fin.ext (k0_dev5_eq c)
/-- A transfer's or signal's target is the neighbour in its direction. -/
theorem dev6_eq (c : Dev nD) : (⟨k0_dev6 c, k0_dev6_lt c⟩ : Dev nD) = peer true c := Fin.ext (k0_dev6_eq c)
/-- A transfer's or signal's target is the neighbour in its direction. -/
theorem dev7_eq (c : Dev nD) : (⟨k0_dev7 c, k0_dev7_lt c⟩ : Dev nD) = peer false c := Fin.ext (k0_dev7_eq c)
/-- A transfer's or signal's target is the neighbour in its direction. -/
theorem dev8_eq (c : Dev nD) : (⟨k0_dev8 c, k0_dev8_lt c⟩ : Dev nD) = peer true c := Fin.ext (k0_dev8_eq c)

/-! ## The places the kernel reads -/

/-- The rows read are those of the chunk at hand. -/
theorem off1_at (c : Dev nD) : k0_off1 c = ![512 * (chunkAt false 0 c).val, 0] := (k0_off1_eq c).trans (by revert c; decide)
/-- The rows read are those of the chunk at hand. -/
theorem off2_at (c : Dev nD) : k0_off2 c = ![512 * (chunkAt false 0 c).val, 0] := (k0_off2_eq c).trans (by revert c; decide)
/-- The rows read are those of the chunk at hand. -/
theorem off3_at (c : Dev nD) : k0_off3 c = ![512 * (chunkAt true 0 c).val, 0] := (k0_off3_eq c).trans (by revert c; decide)
/-- The rows read are those of the chunk at hand. -/
theorem off4_at (c : Dev nD) : k0_off4 c = ![512 * (chunkAt true 0 c).val, 0] := (k0_off4_eq c).trans (by revert c; decide)

/-- The rows read are those of the chunk at hand. -/
theorem off5_at (c : Dev nD) (r : Fin 3) : k0_off5 c (BitVec.ofNat 32 r.val) = ![512 * (chunkAt false r.succ c).val, 0] :=
  (k0_off5_eq c r).trans (by revert c r; decide)
/-- The rows read are those of the chunk at hand. -/
theorem off6_at (c : Dev nD) (r : Fin 3) : k0_off6 c (BitVec.ofNat 32 r.val) = ![512 * (chunkAt false r.succ c).val, 0] :=
  (k0_off6_eq c r).trans (by revert c r; decide)
/-- The rows read are those of the chunk at hand. -/
theorem off7_at (c : Dev nD) (r : Fin 3) : k0_off7 c (BitVec.ofNat 32 r.val) = ![512 * (chunkAt true r.succ c).val, 0] :=
  (k0_off7_eq c r).trans (by revert c r; decide)
/-- The rows read are those of the chunk at hand. -/
theorem off8_at (c : Dev nD) (r : Fin 3) : k0_off8 c (BitVec.ofNat 32 r.val) = ![512 * (chunkAt true r.succ c).val, 0] :=
  (k0_off8_eq c r).trans (by revert c r; decide)

/-! ## What a device starts from and ends with -/

/-- A device's tokens: its barrier cell unread, the token to signal each neighbour, and its six transfers. -/
def tools (c : Dev nD) : sProp 𝕄 :=
  iprop(atPos ER (barCell c) 0 ∅ 0 ∗ dutyTok ER (barCell (fro false c)) 0 false ∗ dutyTok ER (barCell (fro true c)) 0 true
    ∗ bigSep Finset.univ fun k : Bool × Fin 3 => hop k.1 k.2 c)
/-- A device's credit: its barrier's two units and its six receive cells'. -/
def creds (c : Dev nD) : sProp 𝕄 :=
  iprop(cred (tallyAt (barCell c) () 2) ∗ bigSep Finset.univ fun k : Bool × Fin 3 => cred (tallyAt (xCell k.1 true k.2 c) () N))
/-- The scratch buffers, at any contents. -/
def scratch (c : Dev nD) : sProp 𝕄 := Pipeline.scopedRest cfg0.spec c
/-- What a device knows and holds of the protocol at launch. -/
def start (c : Dev nD) : sProp 𝕄 := iprop((∃ K, records m ρ K) ∗ tools c ∗ creds c ∗ levAts L lv)

/-- The device's chunk of the result: the clockwise half on the left, the counter-clockwise one on the right. -/
def outAt (c : Dev nD) : (cc0_stg4_0 : Ref sig .tc).ty.Contents (Elt F) :=
  oM.view.writes (Elt F) (fun _ => Classical.choice inferInstance)
    [⟨Rect.unit (s := S512x1024) ![0, 512] S512x512.size inb_S512x1024_S512x512_0_512, total m ρ true c⟩,
     ⟨Rect.unit (s := S512x1024) ![0, 0] S512x512.size inb_S512x1024_S512x512_0_0, total m ρ false c⟩]

/-- What is held before the body. -/
def Φ₀ (c : Dev nD) : sProp 𝕄 := iprop(start m ρ c ∗ scratch c)
/-- What is held after the body. -/
def Φ₁ (c : Dev nD) : sProp 𝕄 :=
  iprop(scratch c ∗ semVal (barCell c) 0 ∗ bigSep Finset.univ fun k : Bool × Bool × Fin 3 => semVal (xCell k.1 k.2.1 k.2.2 c) 0)

/-- The data of the one call: contents before and after, and what is held around the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => rAt m ρ c
    | ⟨2, _⟩ => iAt m ρ c
    | ⟨3, _⟩ => eAt m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A buffer held whole with known contents. -/
abbrev stg (c : Dev nD) (b : Ref sig .tc) (X : b.ty.Contents (Elt F)) : sProp 𝕄 :=
  iprop(∃ f : Buf (Elt F) (((c : Dev nD) : Thread nD τ).loc b), ⌜f = X⌝ ∗ ((Memref.whole b).view.loc (c : Thread nD τ) ↦{fullShare} f))

/-- The scratch, buffer by buffer. -/
theorem scratch_eq (c : Dev nD) : (scratch c : sProp 𝕄)
    = iprop((∃ f : Buf (Elt F) ((c : Thread nD τ).loc cc0_scratch0), wM.view.loc (c : Thread nD τ) ↦{fullShare} f)
      ∗ (∃ f : Buf (Elt F) ((c : Thread nD τ).loc cc0_scratch1), (sndM false).view.loc (c : Thread nD τ) ↦{fullShare} f)
      ∗ (∃ f : Buf (Elt F) ((c : Thread nD τ).loc cc0_scratch2), (sndM true).view.loc (c : Thread nD τ) ↦{fullShare} f)
      ∗ land false c ∗ land true c) := by
  unfold scratch
  rw [scopedRest0_eq, land_eq, land_eq]

/-- What the body starts from. -/
def bodyPre (c : Dev nD) : sProp 𝕄 :=
  iprop(Φ₀ m ρ c
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- What the body ends with. -/
def bodyPost (c : Dev nD) : sProp 𝕄 :=
  iprop(Φ₁ c ∗ (dats m ρ 0 c).owesAt () t0_0.succ ∗ stg c cc0_stg0_0 (xAt m ρ c) ∗ stg c cc0_stg1_0 (rAt m ρ c)
    ∗ stg c cc0_stg2_0 (iAt m ρ c) ∗ stg c cc0_stg3_0 (eAt m ρ c) ∗ stg c cc0_stg4_0 (outAt m ρ c))

/-- The six hops, one by one. -/
theorem bigSep_hops (Φ : Bool × Fin 3 → sProp 𝕄) : bigSep Finset.univ Φ
    = iprop(Φ (false, 0) ∗ Φ (true, 0) ∗ Φ (false, 1) ∗ Φ (true, 1) ∗ Φ (false, 2) ∗ Φ (true, 2)) :=
  bigSep_univ_eq_bigSepL [(false, 0), (true, 0), (false, 1), (true, 1), (false, 2), (true, 2)] (by decide) (by decide) Φ
/-- What is owed with three hops to go. -/
theorem owing_three (c : Dev nD) : owing c 3 = owing c 2 + tallyAt (xCell true true 0 (peer true c)) () N + tallyAt (xCell false true 0 (peer false c)) () N := rfl
/-- What is owed with two hops to go. -/
theorem owing_two (c : Dev nD) : owing c 2 = owing c 1 + tallyAt (xCell true true 1 (peer true c)) () N + tallyAt (xCell false true 1 (peer false c)) () N := rfl
/-- What is owed with one hop to go. -/
theorem owing_one (c : Dev nD) : owing c 1 = 0 + tallyAt (xCell true true 2 (peer true c)) () N + tallyAt (xCell false true 2 (peer false c)) () N := rfl

/-- What is owed at the start of the body. -/
theorem owes_start (c : Dev nD) : (dats m ρ 0 c).owesAt () t0_0.castSucc ⊢ (owesX c (O₀ c) : sProp 𝕄) := by
  unfold Dat.owesAt Pipeline.owesWithin owesX
  rw [show (dats m ρ 0 c).owed t0_0.castSucc = O₀ c from rfl]
  generalize O₀ c = O
  iintro ⟨%W, -, HO⟩
  iexists W; iexact HO

/-- Nothing is owed at the end of the body. -/
theorem owes_end (c : Dev nD) : (owesX c 0 : sProp 𝕄) ⊢ (dats m ρ 0 c).owesAt () t0_0.succ := by
  unfold Dat.owesAt Pipeline.owesWithin owesX
  rw [show (dats m ρ 0 c).owed t0_0.succ = 0 from rfl]
  iintro ⟨%W, HO⟩
  iexists W; isplitr; · ipureintro; exact fun _ _ => Or.inl trivial
  iexact HO

/-- Stores of both halves leave contents that do not depend on what the buffer held. -/
theorem out_fresh (g : (cc0_stg4_0 : Ref sig .tc).ty.Contents (Elt F)) (v w : FVec F S512x512 .f32) :
    oM.view.writes (Elt F) g [⟨Rect.unit (s := S512x1024) ![0, 512] S512x512.size inb_S512x1024_S512x512_0_512, v⟩,
        ⟨Rect.unit (s := S512x1024) ![0, 0] S512x512.size inb_S512x1024_S512x512_0_0, w⟩]
      = oM.view.writes (Elt F) (fun _ => Classical.choice inferInstance)
        [⟨Rect.unit (s := S512x1024) ![0, 512] S512x512.size inb_S512x1024_S512x512_0_512, v⟩,
        ⟨Rect.unit (s := S512x1024) ![0, 0] S512x512.size inb_S512x1024_S512x512_0_0, w⟩] :=
  View.contents_ext _ (fun y => congrFun (View.read_writes_of_cover _ _ _ _ _ (View.cover_of_tiled _ ![512, 512] rfl)) y)
    (fun i h => absurd rfl (h i))

/-- The twelve transfer semaphores, one by one. -/
theorem bigSep_cells (Φ : Bool × Bool × Fin 3 → sProp 𝕄) : bigSep Finset.univ Φ
    = iprop(Φ (false, false, 0) ∗ Φ (false, true, 0) ∗ Φ (true, false, 0) ∗ Φ (true, true, 0)
      ∗ Φ (false, false, 1) ∗ Φ (false, true, 1) ∗ Φ (true, false, 1) ∗ Φ (true, true, 1)
      ∗ Φ (false, false, 2) ∗ Φ (false, true, 2) ∗ Φ (true, false, 2) ∗ Φ (true, true, 2)) :=
  bigSep_univ_eq_bigSepL [(false, false, 0), (false, true, 0), (true, false, 0), (true, true, 0),
    (false, false, 1), (false, true, 1), (true, false, 1), (true, true, 1),
    (false, false, 2), (false, true, 2), (true, false, 2), (true, true, 2)] (by decide) (by decide) Φ

/-- Three slots of any contents are the landing buffer again. -/
theorem land_back (d : Bool) (c : Dev nD) (v₀ v₁ v₂ : FVec F S512x512 .bf16) :
    iprop(slotPts d 0 c v₀ ∗ slotPts d 1 c v₁ ∗ slotPts d 2 c v₂) ⊢ (land d c : sProp 𝕄) := by
  iintro ⟨H0, H1, H2⟩
  iapply (slots_land d c)
  rw [slots_three]
  unfold slotAny
  isplitl [H0]; · iexists v₀; iexact H0
  isplitl [H1]; · iexists v₁; iexact H1
  iexists v₂; iexact H2

/-- The body on the staged operands and the scratch. -/
abbrev prog : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8

set_option maxHeartbeats 1000000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ prog Kt := by
  generalize hP : prog (F := F) = P
  unfold bodyPre Φ₀ start tools creds
  rw [scratch_eq, bigSep_hops, bigSep_hops]
  iintro ⟨⟨⟨⟨⟨%K, #HI⟩, ⟨HatB, HtF, HtT, Hf0, Ht0, Hf1, Ht1, Hf2, Ht2⟩, ⟨HcB, Hcf0, Hct0, Hcf1, Hct1, Hcf2, Hct2⟩, #Hlev⟩,
      ⟨%w0, Hw⟩, ⟨%s0, Hsf⟩, ⟨%s1, Hst⟩, Hbf, Hbt⟩,
    Ho, ⟨%d0, %g0, %hg0, Hx⟩, ⟨%d1, %g1, %hg1, Hr⟩, ⟨%d2, %g2, %hg2, Hi⟩, ⟨%d3, %g3, %hg3, He⟩, ⟨%d4, %g4, %hg4, Hout⟩⟩, Hk⟩
  have hx : g0 = xAt m ρ c := by rw [hg0]; unfold Dat.before; rw [if_pos (fetch0_0 t0_0)]; rfl
  have hr : g1 = rAt m ρ c := by rw [hg1]; unfold Dat.before; rw [if_pos (fetch0_1 t0_0)]; rfl
  have hi : g2 = iAt m ρ c := by rw [hg2]; unfold Dat.before; rw [if_pos (fetch0_2 t0_0)]; rfl
  have he : g3 = eAt m ρ c := by rw [hg3]; unfold Dat.before; rw [if_pos (fetch0_3 t0_0)]; rfl
  clear hg0 hg1 hg2 hg3 hg4
  subst hx hr hi he
  ihave HO := (owes_start m ρ c) $$ Ho
  -- the landing slots lent to the neighbours
  ihave Hbf := (land_slots false c) $$ Hbf
  ihave Hbt := (land_slots true c) $$ Hbt
  unfold O₀ O₁
  subst hP
  unfold prog
  rw [cc0_body_eq_skeleton]
  sl_exec
  iapply (wp_knock m ρ K false c _ (dev1_eq c) (owing c 3 + tallyAt (barCell (peer false c)) () 1)) $$ [HO HtF Hbf]
  · isplitr; · iexact HI
    isplitl [HO]; · iexact HO
    isplitl [HtF] <;> iassumption
  iintro HO
  sl_exec
  iapply (wp_knock m ρ K true c _ (dev2_eq c) (owing c 3)) $$ [HO HtT Hbt]
  · isplitr; · iexact HI
    isplitl [HO]; · iexact HO
    isplitl [HtT] <;> iassumption
  iintro HO
  sl_exec
  iapply (wp_meet m ρ K c) $$ [HO HcB HatB]
  · isplitr; · iexact HI
    isplitl [HO]; · iexact HO
    isplitr; · iexact Hlev
    isplitl [HcB] <;> iassumption
  iintro ⟨HO, HzB, Hlf, Hlt⟩
  ihave Hlf := (Entails.of_eq (slots_three false _)) $$ Hlf
  ihave Hlt := (Entails.of_eq (slots_three true _)) $$ Hlt
  icases Hlf with ⟨Hlf0, Hlf1, Hlf2⟩
  icases Hlt with ⟨Hlt0, Hlt1, Hlt2⟩
  sl_step
  iapply (wp_load 𝒱₀ (c : Thread nD τ) none Set.univ (m := eM) (Finset.subset_univ _)) $$ He; iintro He
  iapply (wp_load 𝒱₀ (c : Thread nD τ) none Set.univ (m := wM) (Finset.subset_univ _)) $$ Hw; iintro Hw
  iapply (wp_store 𝒱₀ (c : Thread nD τ) none Set.univ (m := wM)
    (r := Rect.unit (s := S4x512x1024) ![0, 0, 0] S4x512x1024.size inb_S4x512x1024_S4x512x1024_0_0_0) (Mk := Finset.univ) (Finset.subset_univ _)) $$ Hw
  iintro Hw
  rw [exp_full, exp_read]
  ihave Hw := (Entails.of_eq (show (wM.view.loc (c : Thread nD τ) ↦{fullShare} k0_pay3 (eAt m ρ c) : sProp 𝕄) = (wM.view.loc (c : Thread nD τ) ↦{fullShare} wAt m ρ c) from rfl)) $$ Hw
  rw [Prog.ret_bind_unit]
  sl_exec
  ihave Hsf := (snd_full false c _ _) $$ Hsf
  ihave Hst := (snd_full true c _ _) $$ Hst
  ihave Hsf : sndPts false c (sent m ρ false 0 c) $$ [Hsf]
  · rw [show sent m ρ false 0 c = packOf (part m ρ false (chunkAt false 0 c) c) from rfl,
      part_at m ρ false _ c _ _ (off1_at c) (off2_at c) (k0_off1_inb c) (k0_off2_inb c)]
    iexact Hsf
  ihave Hst : sndPts true c (sent m ρ true 0 c) $$ [Hst]
  · rw [show sent m ρ true 0 c = packOf (part m ρ true (chunkAt true 0 c) c) from rfl,
      part_at m ρ true _ c _ _ (off3_at c) (off4_at c) (k0_off3_inb c) (k0_off4_inb c)]
    iexact Hst
  unfold hop
  rw [owing_three]
  icases Hf0 with ⟨Haf, Hbf, Htf, Huf⟩
  icases Ht0 with ⟨Hat, Hbt, Htt, Hut⟩
  iapply (wp_push m ρ K false 0 c _ (dev3_eq c) (owing c 2 + tallyAt (xCell true true 0 (peer true c)) () N)) $$ [Hsf Hlf0 HO Htf Huf]
  · isplitr; · iexact HI
    isplitl [Hsf]; · iexact Hsf
    isplitl [Hlf0]; · iexact Hlf0
    isplitl [HO]; · iexact HO
    isplitl [Htf] <;> iassumption
  iintro ⟨Hvf, HO⟩
  sl_exec
  iapply (wp_push m ρ K true 0 c _ (dev4_eq c) (owing c 2)) $$ [Hst Hlt0 HO Htt Hut]
  · isplitr; · iexact HI
    isplitl [Hst]; · iexact Hst
    isplitl [Hlt0]; · iexact Hlt0
    isplitl [HO]; · iexact HO
    isplitl [Htt] <;> iassumption
  iintro ⟨Hvt, HO⟩
  sl_exec
  iapply (wp_pull m ρ K false false 0 c 2 (by decide) (src := slotM false 0) (dst := sndM false) rfl) $$ [HO Hvf Haf]
  · isplitr; · iexact HI
    isplitl [HO]; · iexact HO
    isplitr; · iexact Hlev
    isplitl [Hvf] <;> iassumption
  iintro ⟨HO, Hzaf0, Hsf⟩
  sl_exec
  iapply (wp_pull m ρ K false true 0 c 2 (by decide) (src := sndM false) (dst := slotM false 0) rfl) $$ [HO Hcf0 Hbf]
  · isplitr; · iexact HI
    isplitl [HO]; · iexact HO
    isplitr; · iexact Hlev
    isplitl [Hcf0] <;> iassumption
  iintro ⟨HO, Hzbf0, Hlf0⟩
  sl_exec
  iapply (wp_pull m ρ K true false 0 c 2 (by decide) (src := slotM true 0) (dst := sndM true) rfl) $$ [HO Hvt Hat]
  · isplitr; · iexact HI
    isplitl [HO]; · iexact HO
    isplitr; · iexact Hlev
    isplitl [Hvt] <;> iassumption
  iintro ⟨HO, Hzat0, Hst⟩
  sl_exec
  iapply (wp_pull m ρ K true true 0 c 2 (by decide) (src := sndM true) (dst := slotM true 0) rfl) $$ [HO Hct0 Hbt]
  · isplitr; · iexact HI
    isplitl [HO]; · iexact HO
    isplitr; · iexact Hlev
    isplitl [Hct0] <;> iassumption
  iintro ⟨HO, Hzbt0, Hlt0⟩
  ihave Hlf0 := (Entails.of_eq (xPay_recv m ρ false 0 c)) $$ Hlf0
  ihave Hlt0 := (Entails.of_eq (xPay_recv m ρ true 0 c)) $$ Hlt0
  ihave Hsf := (Entails.of_eq (xPay_send m ρ false 0 c)) $$ Hsf
  ihave Hst := (Entails.of_eq (xPay_send m ρ true 0 c)) $$ Hst
  ihave Hsf := (snd_any false c _) $$ Hsf
  ihave Hst := (snd_any true c _) $$ Hst
  icases Hsf with ⟨%f0, Hsf⟩
  icases Hst with ⟨%e0, Hst⟩
  iapply (wp_take false 0 c _) $$ Hlf0
  iintro Hlf0 %u0 %hu0
  rw [Prog.ret_bind_unit]
  sl_exec
  iapply (wp_take true 0 c _) $$ Hlt0
  iintro Hlt0 %v0 %hv0
  sl_exec
  ihave Hsf := (snd_full false c _ _) $$ Hsf
  ihave Hst := (snd_full true c _ _) $$ Hst
  ihave Hsf : sndPts false c (sent m ρ false 1 c) $$ [Hsf]
  · rw [show sent m ρ false 1 c = packOf (joinOf (sent m ρ false 0 (fro false c)) (part m ρ false (chunkAt false (Fin.succ 0) c) c)) from rfl, ← show _ = sent m ρ false 0 (fro false c) from hu0,
      part_at m ρ false _ c _ _ (off5_at c 0) (off6_at c 0) (k0_off5_inb c 0) (k0_off6_inb c 0)]
    iexact Hsf
  ihave Hst : sndPts true c (sent m ρ true 1 c) $$ [Hst]
  · rw [show sent m ρ true 1 c = packOf (joinOf (sent m ρ true 0 (fro true c)) (part m ρ true (chunkAt true (Fin.succ 0) c) c)) from rfl, ← show _ = sent m ρ true 0 (fro true c) from hv0,
      part_at m ρ true _ c _ _ (off7_at c 0) (off8_at c 0) (k0_off7_inb c 0) (k0_off8_inb c 0)]
    iexact Hst
  rw [owing_two]
  icases Hf1 with ⟨Haf, Hbf, Htf, Huf⟩
  icases Ht1 with ⟨Hat, Hbt, Htt, Hut⟩
  iapply (wp_push m ρ K false 1 c _ (dev5_eq c) (owing c 1 + tallyAt (xCell true true 1 (peer true c)) () N)) $$ [Hsf Hlf1 HO Htf Huf]
  · isplitr; · iexact HI
    isplitl [Hsf]; · iexact Hsf
    isplitl [Hlf1]; · iexact Hlf1
    isplitl [HO]; · iexact HO
    isplitl [Htf] <;> iassumption
  iintro ⟨Hvf, HO⟩
  sl_exec
  iapply (wp_push m ρ K true 1 c _ (dev6_eq c) (owing c 1)) $$ [Hst Hlt1 HO Htt Hut]
  · isplitr; · iexact HI
    isplitl [Hst]; · iexact Hst
    isplitl [Hlt1]; · iexact Hlt1
    isplitl [HO]; · iexact HO
    isplitl [Htt] <;> iassumption
  iintro ⟨Hvt, HO⟩
  sl_exec
  iapply (wp_pull m ρ K false false 1 c 1 (by decide) (src := slotM false 1) (dst := sndM false) rfl) $$ [HO Hvf Haf]
  · isplitr; · iexact HI
    isplitl [HO]; · iexact HO
    isplitr; · iexact Hlev
    isplitl [Hvf] <;> iassumption
  iintro ⟨HO, Hzaf1, Hsf⟩
  sl_exec
  iapply (wp_pull m ρ K false true 1 c 1 (by decide) (src := sndM false) (dst := slotM false 1) rfl) $$ [HO Hcf1 Hbf]
  · isplitr; · iexact HI
    isplitl [HO]; · iexact HO
    isplitr; · iexact Hlev
    isplitl [Hcf1] <;> iassumption
  iintro ⟨HO, Hzbf1, Hlf1⟩
  sl_exec
  iapply (wp_pull m ρ K true false 1 c 1 (by decide) (src := slotM true 1) (dst := sndM true) rfl) $$ [HO Hvt Hat]
  · isplitr; · iexact HI
    isplitl [HO]; · iexact HO
    isplitr; · iexact Hlev
    isplitl [Hvt] <;> iassumption
  iintro ⟨HO, Hzat1, Hst⟩
  sl_exec
  iapply (wp_pull m ρ K true true 1 c 1 (by decide) (src := sndM true) (dst := slotM true 1) rfl) $$ [HO Hct1 Hbt]
  · isplitr; · iexact HI
    isplitl [HO]; · iexact HO
    isplitr; · iexact Hlev
    isplitl [Hct1] <;> iassumption
  iintro ⟨HO, Hzbt1, Hlt1⟩
  ihave Hlf1 := (Entails.of_eq (xPay_recv m ρ false 1 c)) $$ Hlf1
  ihave Hlt1 := (Entails.of_eq (xPay_recv m ρ true 1 c)) $$ Hlt1
  ihave Hsf := (Entails.of_eq (xPay_send m ρ false 1 c)) $$ Hsf
  ihave Hst := (Entails.of_eq (xPay_send m ρ true 1 c)) $$ Hst
  ihave Hsf := (snd_any false c _) $$ Hsf
  ihave Hst := (snd_any true c _) $$ Hst
  icases Hsf with ⟨%f1, Hsf⟩
  icases Hst with ⟨%e1, Hst⟩
  iapply (wp_take false 1 c _) $$ Hlf1
  iintro Hlf1 %u1 %hu1
  rw [Prog.ret_bind_unit]
  iapply (wp_take true 1 c _) $$ Hlt1
  iintro Hlt1 %v1 %hv1
  rw [Prog.ret_bind_unit]
  sl_exec
  ihave Hsf := (snd_full false c _ _) $$ Hsf
  ihave Hst := (snd_full true c _ _) $$ Hst
  ihave Hsf : sndPts false c (sent m ρ false 2 c) $$ [Hsf]
  · rw [show sent m ρ false 2 c = packOf (joinOf (sent m ρ false 1 (fro false c)) (part m ρ false (chunkAt false (Fin.succ 1) c) c)) from rfl, ← show _ = sent m ρ false 1 (fro false c) from hu1,
      part_at m ρ false _ c _ _ (off5_at c 1) (off6_at c 1) (k0_off5_inb c 1) (k0_off6_inb c 1)]
    iexact Hsf
  ihave Hst : sndPts true c (sent m ρ true 2 c) $$ [Hst]
  · rw [show sent m ρ true 2 c = packOf (joinOf (sent m ρ true 1 (fro true c)) (part m ρ true (chunkAt true (Fin.succ 1) c) c)) from rfl, ← show _ = sent m ρ true 1 (fro true c) from hv1,
      part_at m ρ true _ c _ _ (off7_at c 1) (off8_at c 1) (k0_off7_inb c 1) (k0_off8_inb c 1)]
    iexact Hst
  rw [owing_one]
  icases Hf2 with ⟨Haf, Hbf, Htf, Huf⟩
  icases Ht2 with ⟨Hat, Hbt, Htt, Hut⟩
  iapply (wp_push m ρ K false 2 c _ (dev7_eq c) (0 + tallyAt (xCell true true 2 (peer true c)) () N)) $$ [Hsf Hlf2 HO Htf Huf]
  · isplitr; · iexact HI
    isplitl [Hsf]; · iexact Hsf
    isplitl [Hlf2]; · iexact Hlf2
    isplitl [HO]; · iexact HO
    isplitl [Htf] <;> iassumption
  iintro ⟨Hvf, HO⟩
  sl_exec
  iapply (wp_push m ρ K true 2 c _ (dev8_eq c) (0)) $$ [Hst Hlt2 HO Htt Hut]
  · isplitr; · iexact HI
    isplitl [Hst]; · iexact Hst
    isplitl [Hlt2]; · iexact Hlt2
    isplitl [HO]; · iexact HO
    isplitl [Htt] <;> iassumption
  iintro ⟨Hvt, HO⟩
  rw [← show owing c 0 = 0 from rfl]
  sl_exec
  iapply (wp_pull m ρ K false false 2 c 0 (by decide) (src := slotM false 2) (dst := sndM false) rfl) $$ [HO Hvf Haf]
  · isplitr; · iexact HI
    isplitl [HO]; · iexact HO
    isplitr; · iexact Hlev
    isplitl [Hvf] <;> iassumption
  iintro ⟨HO, Hzaf2, Hsf⟩
  sl_exec
  iapply (wp_pull m ρ K false true 2 c 0 (by decide) (src := sndM false) (dst := slotM false 2) rfl) $$ [HO Hcf2 Hbf]
  · isplitr; · iexact HI
    isplitl [HO]; · iexact HO
    isplitr; · iexact Hlev
    isplitl [Hcf2] <;> iassumption
  iintro ⟨HO, Hzbf2, Hlf2⟩
  sl_exec
  iapply (wp_pull m ρ K true false 2 c 0 (by decide) (src := slotM true 2) (dst := sndM true) rfl) $$ [HO Hvt Hat]
  · isplitr; · iexact HI
    isplitl [HO]; · iexact HO
    isplitr; · iexact Hlev
    isplitl [Hvt] <;> iassumption
  iintro ⟨HO, Hzat2, Hst⟩
  sl_exec
  iapply (wp_pull m ρ K true true 2 c 0 (by decide) (src := sndM true) (dst := slotM true 2) rfl) $$ [HO Hct2 Hbt]
  · isplitr; · iexact HI
    isplitl [HO]; · iexact HO
    isplitr; · iexact Hlev
    isplitl [Hct2] <;> iassumption
  iintro ⟨HO, Hzbt2, Hlt2⟩
  ihave Hlf2 := (Entails.of_eq (xPay_recv m ρ false 2 c)) $$ Hlf2
  ihave Hlt2 := (Entails.of_eq (xPay_recv m ρ true 2 c)) $$ Hlt2
  ihave Hsf := (Entails.of_eq (xPay_send m ρ false 2 c)) $$ Hsf
  ihave Hst := (Entails.of_eq (xPay_send m ρ true 2 c)) $$ Hst
  ihave Hsf := (snd_any false c _) $$ Hsf
  ihave Hst := (snd_any true c _) $$ Hst
  icases Hsf with ⟨%f2, Hsf⟩
  icases Hst with ⟨%e2, Hst⟩
  iapply (wp_take false 2 c _) $$ Hlf2
  iintro Hlf2 %u2 %hu2
  rw [Prog.ret_bind_unit]
  iapply (wp_take true 2 c _) $$ Hlt2
  iintro Hlt2 %v2 %hv2
  rw [Prog.ret_bind_unit]
  sl_exec
  rw [out_fresh]
  ihave Hout : (oM.view.loc (c : Thread nD τ) ↦{fullShare} outAt m ρ c) $$ [Hout]
  · rw [show outAt m ρ c = oM.view.writes (Elt F) (fun _ => Classical.choice inferInstance)
      [⟨Rect.unit (s := S512x1024) ![0, 512] S512x512.size inb_S512x1024_S512x512_0_512,
        joinOf (sent m ρ true 2 (fro true c)) (part m ρ true (chunkAt true (Fin.succ 2) c) c)⟩,
      ⟨Rect.unit (s := S512x1024) ![0, 0] S512x512.size inb_S512x1024_S512x512_0_0,
        joinOf (sent m ρ false 2 (fro false c)) (part m ρ false (chunkAt false (Fin.succ 2) c) c)⟩] from rfl,
      ← show _ = sent m ρ false 2 (fro false c) from hu2, ← show _ = sent m ρ true 2 (fro true c) from hv2,
      part_at m ρ false _ c _ _ (off5_at c 2) (off6_at c 2) (k0_off5_inb c 2) (k0_off6_inb c 2),
      part_at m ρ true _ c _ _ (off7_at c 2) (off8_at c 2) (k0_off7_inb c 2) (k0_off8_inb c 2)]
    iexact Hout
  ihave Hbf := (land_back false c _ _ _) $$ [Hlf0 Hlf1 Hlf2]
  · isplitl [Hlf0]; · iexact Hlf0
    isplitl [Hlf1] <;> iassumption
  ihave Hbt := (land_back true c _ _ _) $$ [Hlt0 Hlt1 Hlt2]
  · isplitl [Hlt0]; · iexact Hlt0
    isplitl [Hlt1] <;> iassumption
  ihave HO := (Entails.of_eq (show (owesX c (owing c 0) : sProp 𝕄) = owesX c 0 from rfl)) $$ HO
  ihave Ho := (owes_end m ρ c) $$ HO
  sl_step
  iapply Hk
  unfold bodyPost Φ₁
  rw [scratch_eq, bigSep_cells]
  isplitl [Hw Hsf Hst Hbf Hbt HzB Hzaf0 Hzbf0 Hzat0 Hzbt0 Hzaf1 Hzbf1 Hzat1 Hzbt1 Hzaf2 Hzbf2 Hzat2 Hzbt2]
  · isplitl [Hw Hsf Hst Hbf Hbt]
    · isplitl [Hw]; · iexists _; iexact Hw
      isplitl [Hsf]; · iexists _; iexact Hsf
      isplitl [Hst]; · iexists _; iexact Hst
      isplitl [Hbf] <;> iassumption
    isplitl [HzB]; · iexact HzB
    isplitl [Hzaf0]; · iexact Hzaf0
    isplitl [Hzbf0]; · iexact Hzbf0
    isplitl [Hzat0]; · iexact Hzat0
    isplitl [Hzbt0]; · iexact Hzbt0
    isplitl [Hzaf1]; · iexact Hzaf1
    isplitl [Hzbf1]; · iexact Hzbf1
    isplitl [Hzat1]; · iexact Hzat1
    isplitl [Hzbt1]; · iexact Hzbt1
    isplitl [Hzaf2]; · iexact Hzaf2
    isplitl [Hzbf2]; · iexact Hzbf2
    isplitl [Hzat2] <;> iassumption
  isplitl [Ho]; · iexact Ho
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  iexists _; isplitr; · (ipureintro; rfl)
  iexact Hout

/-- The body's program at the one grid point is `prog`. -/
theorem prog_at : (defs₀ (F := F)) .tc 0 (t0_0, cfg0.slots t0_0) = prog := rfl
/-- The invariant before the one step. -/
theorem phi_first (c : Dev nD) : (dats m ρ 0 c).Φ t0_0.castSucc = Φ₀ m ρ c := rfl
/-- The invariant after the one step. -/
theorem phi_last (c : Dev nD) : (dats m ρ 0 c).Φ t0_0.succ = Φ₁ c := rfl

attribute [local irreducible] outAt in
set_option maxRecDepth 8192 in
/-- The run of the body in the form the launch takes it. -/
theorem body_obligation (c : Dev nD) : BodyObligation (dats (F := F) m ρ 0 c) (defs₀ (F := F)) 𝒱₀ () Set.univ := fun t => by
  rw [fin_N0 t]
  rw [bigSep_W0, bigSep_W0, prog_at, phi_first, phi_last]
  iintro ⟨HΦ, Ho, H0, H1, H2, H3, H4⟩
  iapply (sound_body m ρ c _)
  isplitl [HΦ Ho H0 H1 H2 H3 H4]
  · unfold bodyPre
    isplitl [HΦ]; · iexact HΦ
    isplitl [Ho]; · iexact Ho
    isplitl [H0]
    · icases H0 with ⟨%d, H⟩
      iexists d
      ihave H := (Entails.of_eq (owns_whole_eq _ _ _ _)) $$ H
      iexact H
    isplitl [H1]
    · icases H1 with ⟨%d, H⟩
      iexists d
      ihave H := (Entails.of_eq (owns_whole_eq _ _ _ _)) $$ H
      iexact H
    isplitl [H2]
    · icases H2 with ⟨%d, H⟩
      iexists d
      ihave H := (Entails.of_eq (owns_whole_eq _ _ _ _)) $$ H
      iexact H
    isplitl [H3]
    · icases H3 with ⟨%d, H⟩
      iexists d
      ihave H := (Entails.of_eq (owns_whole_eq _ _ _ _)) $$ H
      iexact H
    icases H4 with ⟨%d, H⟩
    iexists d
    ihave H := (Entails.of_eq (owns_whole_eq _ _ _ _)) $$ H
    iexact H
  · unfold bodyPost
    iintro ⟨HΦ, Ho, H0, H1, H2, H3, H4⟩
    isplitl [HΦ]; · iexact HΦ
    isplitl [Ho]; · iexact Ho
    isplitl [H0]
    · iapply (Entails.of_eq (owns_whole_eq _ _ _ _).symm)
      iexact H0
    isplitl [H1]
    · iapply (Entails.of_eq (owns_whole_eq _ _ _ _).symm)
      iexact H1
    isplitl [H2]
    · iapply (Entails.of_eq (owns_whole_eq _ _ _ _).symm)
      iexact H2
    isplitl [H3]
    · iapply (Entails.of_eq (owns_whole_eq _ _ _ _).symm)
      iexact H3
    ihave H := (Entails.of_eq (owns_whole_eq (c : Thread nD τ) cc0_stg4_0 fullShare (outAt m ρ c)).symm) $$ H4
    iexact H

end Cert.Moe

end
-- ==== Proof.Run.lean ====
/-
# The run on four devices

The launch: what each device is dealt (its cells' positions, the tokens of the duties it pays, the credit of the
receipts it waits for), the invariants of all cells allocated at once, and the run of @main on the ring from any memory
with zero counters, for any float values. It ends with each device's result array at `outAt`'s contents, the arguments
unchanged and every counter at zero.
-/
module

public import proofs.«01_k».proof.Proof.Body
public import Idealize.ShloMosaic.Lib.Pipeline.CollectiveSegs

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens, listed -/

/-- A direction and hop with an end, as a transfer's cell. -/
def ends : (Bool × Fin 3) × Bool ≃ Bool × Bool × Fin 3 :=
  ⟨fun k => (k.1.1, k.2, k.1.2), fun k => ((k.1, k.2.2), k.2.1), fun _ => rfl, fun _ => rfl⟩

/-- The transfers' cells two by two: send end and receive end. -/
theorem bigSep_ends (Φ : Bool × Bool × Fin 3 → sProp 𝕄) :
    bigSep Finset.univ Φ = bigSep Finset.univ fun k : Bool × Fin 3 => iprop(Φ (k.1, false, k.2) ∗ Φ (k.1, true, k.2)) := by
  rw [bigSep_univ_equiv ends, bigSep_univ_prod]
  exact bigSep_congr fun k _ => bigSep_univ_eq_bigSepL [false, true] (by decide) (by decide) _

/-- All cells of a device: the transfers' and the barrier's. -/
theorem bigSep_cell (Φ : Cell → sProp 𝕄) :
    bigSep Finset.univ Φ = iprop((bigSep Finset.univ fun k : Bool × Bool × Fin 3 => Φ (some k)) ∗ Φ none) := by
  rw [bigSep_univ_equiv (Equiv.optionEquivSumPUnit (Bool × Bool × Fin 3)).symm, bigSep_univ_sum,
    bigSep_univ_eq_bigSepL ([PUnit.unit.{1}] : List PUnit.{1}) (by decide) (by decide)]
  rfl

/-- The semaphores of the exchange are all different. -/
theorem kcell_injective : Function.Injective kcell := by
  rintro ⟨c, k⟩ ⟨c', k'⟩ h
  have h1 : c = c' := congrArg (fun g : GSem nD τ sig => g.1.1) h
  have h2 : csem k = csem k' := congrArg Prod.snd h
  subst h1
  cases k with
  | none => cases k' with
    | none => rfl
    | some k' => exact absurd h2 (fun e => by cases e)
  | some k => cases k' with
    | none => exact absurd h2 (fun e => by cases e)
    | some k' => rw [xsem_inj k k' (SemLoc.dma.inj h2)]

/-- A device's duties: the barrier's two, and one for each transfer's cell. -/
abbrev Duty : Type := Bool ⊕ ((Bool × Fin 3) × Bool)
/-- The payment a token stands for. -/
def tokOf (cj : Dev nD × Duty) : GSem nD τ sig × ℕ × Bool :=
  match cj.2 with
  | .inl b => (barCell cj.1, 0, b)
  | .inr k => (xCell k.1.1 k.2 k.1.2 cj.1, 0, false)

/-- Different tokens stand for different payments. -/
theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  subst h1
  have hs := congrArg (fun x : GSem nD τ sig × ℕ × Bool => x.1.2) h
  have hb := congrArg (fun x : GSem nD τ sig × ℕ × Bool => x.2.2) h
  cases j with
  | inl b => cases j' with
    | inl b' => have : b = b' := hb; rw [this]
    | inr k' => exact absurd hs (fun e => by cases e)
  | inr k => cases j' with
    | inl b' => exact absurd hs (fun e => by cases e)
    | inr k' => rw [ends.injective (xsem_inj (ends k) (ends k') (SemLoc.dma.inj hs))]

/-- All semaphores of the exchange. -/
def ringCells : Finset (GSem nD τ sig) := Finset.univ.map ⟨kcell, kcell_injective⟩
/-- All payments of the exchange. -/
def ringToks : Finset (GSem nD τ sig × ℕ × Bool) := Finset.univ.map ⟨tokOf, tokOf_injective⟩

/-- What the launch starts from. -/
def u₀ : UU := (initOf (Pipeline.cells cfgs cellOf_inj) (Pipeline.launchToks cfgs cellOf_inj), initOf ringCells ringToks)

/-! ## What is dealt -/

/-- The tokens of the duties on device `c`'s own cells. -/
def ownToks (c : Dev nD) : sProp 𝕄 :=
  iprop((dutyTok ER (barCell c) 0 false ∗ dutyTok ER (barCell c) 0 true)
    ∗ bigSep Finset.univ fun k : Bool × Fin 3 => iprop(dutyTok ER (xCell k.1 false k.2 c) 0 false ∗ dutyTok ER (xCell k.1 true k.2 c) 0 false))
/-- The tokens of the duties device `c` pays. -/
def payToks (c : Dev nD) : sProp 𝕄 :=
  iprop((dutyTok ER (barCell (fro false c)) 0 false ∗ dutyTok ER (barCell (fro true c)) 0 true)
    ∗ bigSep Finset.univ fun k : Bool × Fin 3 => iprop(dutyTok ER (xCell k.1 false k.2 c) 0 false ∗ dutyTok ER (xCell k.1 true k.2 (peer k.1 c)) 0 false))
/-- Device `c`'s cells unread. -/
def unread (c : Dev nD) : sProp 𝕄 := bigSep Finset.univ fun k : Cell => atPos ER (kcell (c, k)) 0 ∅ 0

/-- What a device is dealt at launch. -/
def G (c : Dev nD) : sProp 𝕄 :=
  iprop((bigSep Finset.univ fun k : Cell => roundState ER (sched m ρ) (kcell (c, k)) 0)
    ∗ (bigSep Finset.univ fun k : Cell => reached ER (kcell (c, k)) 0) ∗ unread c ∗ ownToks c)
/-- What it holds once all cells are under their invariants. -/
def G' (c : Dev nD) : sProp 𝕄 := iprop((∃ K, records m ρ K) ∗ tools c)

/-- The exchange's start, dealt out to the devices. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    refine bigSep_congr fun c _ => ?_
    unfold ownToks
    rw [bigSep_univ_sum, bigSep_univ_eq_bigSepL [false, true] (by decide) (by decide), bigSep_univ_prod]
    refine congrArg (BIBase.sep _) (bigSep_congr fun k _ => ?_)
    exact bigSep_univ_eq_bigSepL [false, true] (by decide) (by decide) _
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G unread; simp only [bigSep_sep']
  isplitl [Hst]; · iexact Hst
  isplitl [Hr]; · iexact Hr
  isplitl [Hat] <;> iassumption

/-! ## All cells under their invariants -/

/-- The one semaphore outside the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The call's own semaphores are the transfers'. -/
theorem ownSems0_eq (c : Dev nD) : (Pipeline.ownSems0 (Ix := Unit) (Name := ℕ) (U := UU) (Lvl := ℕ) (Val := Elt F) (τ := τ) osem c : sProp 𝕄)
    = bigSep Finset.univ fun k : Bool × Bool × Fin 3 => semVal (xCell k.1 k.2.1 k.2.2 c) 0 := rfl

/-- Each device sets up the invariants of its own semaphores. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Cell => reached ER (kcell (c, k)) 0) ∗ unread c ∗ ownToks c) := by
  unfold G
  rw [ownSems0_eq, unscopedSems0_eq]
  have hall : iprop((bigSep Finset.univ fun k : Bool × Bool × Fin 3 => semVal (xCell k.1 k.2.1 k.2.2 c) 0) ∗ semVal (barCell c) 0)
      ⊢ (bigSep Finset.univ fun k : Cell => semVal (kcell (c, k)) 0 : sProp 𝕄) := by rw [bigSep_cell]
  have hinv : iprop((bigSep Finset.univ fun k : Cell => semVal (kcell (c, k)) 0) ∗ bigSep Finset.univ fun k : Cell => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  iintro ⟨Hos, Hus, Hst, Hr, Hat, Htok⟩
  ihave Hv := hall $$ [Hos Hus]
  · isplitl [Hos] <;> iassumption
  imod hinv $$ [Hv Hst] with Hinv
  · isplitl [Hv] <;> iassumption
  imodintro
  isplitl [Hinv]; · iexact Hinv
  isplitl [Hr]; · iexact Hr
  isplitl [Hat] <;> iassumption

/-- A device and a transfer of its, seen from the device it goes to. -/
def around : Dev nD × (Bool × Fin 3) ≃ Dev nD × (Bool × Fin 3) :=
  ⟨fun p => (peer p.2.1 p.1, p.2), fun p => (fro p.2.1 p.1, p.2), fun p => Prod.ext (fro_peer _ _) rfl, fun p => Prod.ext (peer_fro _ _) rfl⟩

/-- The tokens dealt round the ring, each to the device that pays the duty. -/
theorem toks_around : (bigSep Finset.univ fun c : Dev nD => (ownToks c : sProp 𝕄)) ⊢ bigSep Finset.univ fun c : Dev nD => payToks c := by
  have hrecv : (bigSep Finset.univ fun c : Dev nD => bigSep Finset.univ fun k : Bool × Fin 3 => (dutyTok ER (xCell k.1 true k.2 c) 0 false : sProp 𝕄))
      = bigSep Finset.univ fun c : Dev nD => bigSep Finset.univ fun k : Bool × Fin 3 => dutyTok ER (xCell k.1 true k.2 (peer k.1 c)) 0 false := by
    rw [← bigSep_univ_prod (fun p : Dev nD × (Bool × Fin 3) => (dutyTok ER (xCell p.2.1 true p.2.2 p.1) 0 false : sProp 𝕄)), bigSep_univ_equiv around,
      bigSep_univ_prod]
    rfl
  have hbar (b : Bool) : (bigSep Finset.univ fun c : Dev nD => (dutyTok ER (barCell c) 0 b : sProp 𝕄))
      = bigSep Finset.univ fun c : Dev nD => dutyTok ER (barCell (fro b c)) 0 b := by
    rw [bigSep_univ_equiv (ring (!b))]; rfl
  unfold ownToks payToks
  simp only [bigSep_sep']
  rw [hbar false, hbar true, hrecv]

/-- Unread semaphores and payment tokens make a device's tools. -/
theorem tools_intro (c : Dev nD) : iprop(unread c ∗ payToks c) ⊢ (tools c : sProp 𝕄) := by
  unfold unread payToks tools hop
  rw [bigSep_cell, bigSep_ends]
  simp only [bigSep_sep']
  iintro ⟨⟨⟨Ha, Hb⟩, HB⟩, ⟨Hf, Ht⟩, Hu, Hv⟩
  isplitl [HB]; · iexact HB
  isplitl [Hf]; · iexact Hf
  isplitl [Ht]; · iexact Ht
  isplitl [Ha]; · iexact Ha
  isplitl [Hb]; · iexact Hb
  isplitl [Hu] <;> iassumption

/-- A lasting fact may be used at every member. -/
theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices set up, regrouped by who uses it. -/
theorem regroup :
    (bigSep Finset.univ fun c : Dev nD => iprop((bigSep Finset.univ fun k => iprop(∃ κ : ℕ, cellInv ER (sched m ρ) κ (kcell (c, k))))
          ∗ (bigSep Finset.univ fun k : Cell => reached ER (kcell (c, k)) 0) ∗ unread c ∗ ownToks c) : sProp 𝕄)
      ⊢ bigSep Finset.univ (G' m ρ) := by
  have htools : iprop((bigSep Finset.univ fun c : Dev nD => (unread c : sProp 𝕄)) ∗ bigSep Finset.univ fun c : Dev nD => payToks c)
      ⊢ (bigSep Finset.univ fun c : Dev nD => tools c : sProp 𝕄) := by
    rw [← bigSep_sep']; exact bigSep_mono fun c _ => tools_intro c
  rw [bigSep_sep', bigSep_sep', bigSep_sep', ← bigSep_univ_prod (fun ck : Dev nD × Cell => iprop(∃ κ : ℕ, cellInv ER (sched m ρ) κ (kcell ck))),
    ← bigSep_univ_prod (fun ck : Dev nD × Cell => (reached ER (kcell ck) 0 : sProp 𝕄))]
  iintro ⟨HI, #HR, Hat, Htok⟩
  ihave HK := (BI.bigSep_exists_pi Finset.univ (fun (ck : Dev nD × Cell) (κ : ℕ) => (cellInv ER (sched m ρ) κ (kcell ck) : sProp 𝕄))) $$ HI
  icases HK with ⟨%K, #HI⟩
  ihave Htok := (toks_around (F := F)) $$ Htok
  iapply (bigSep_keep (R := records m ρ K) (Φ := fun c => tools c) fun c _ => by
    unfold G'
    iintro ⟨#H, Ht⟩
    isplitr; · iexists K; iexact H
    iexact Ht)
  isplitr
  · unfold records invs starts; isplitr; · iexact HI
    iexact HR
  iapply htools
  isplitl [Hat] <;> iassumption

/-- The whole set-up, over all devices. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- All that is owed at the start, written out. -/
theorem O₀_eq : O₀ = fun c : Dev nD => 0
    + tallyAt (xCell true true 2 (peer true c)) () N + tallyAt (xCell false true 2 (peer false c)) () N
    + tallyAt (xCell true true 1 (peer true c)) () N + tallyAt (xCell false true 1 (peer false c)) () N
    + tallyAt (xCell true true 0 (peer true c)) () N + tallyAt (xCell false true 0 (peer false c)) () N
    + tallyAt (barCell (peer false c)) () 1 + tallyAt (barCell (peer true c)) () 1 := rfl

/-- The launch's credit is what each device waits for. -/
theorem creds_intro (c : Dev nD) : (Pipeline.launchCred O₀ c : sProp 𝕄) ⊢ creds c := by
  have hd (d : Bool) (sm : SemLoc sig) (n : ℕ) :
      (Pipeline.launchCred (fun c => tallyAt ((peer d c : Thread nD τ), sm) () n) c : sProp 𝕄) ⊢ cred (tallyAt ((c : Thread nD τ), sm) () n) :=
    Pipeline.launchCred_tallyAt sm (peer d) (fro d) (peer_fro d) (fro_peer d) () n c
  rw [O₀_eq]
  simp only [Pipeline.launchCred_add]
  unfold creds
  rw [bigSep_hops, show tallyAt (barCell c) () 2 = tallyAt (barCell c) () 1 + tallyAt (barCell c) () 1 from (tallyAt_add _ _ 1 1).symm]
  iintro ⟨⟨⟨⟨⟨⟨⟨⟨-, Ht2⟩, Hf2⟩, Ht1⟩, Hf1⟩, Ht0⟩, Hf0⟩, Hb⟩, Hb'⟩
  ihave Hb := (hd false (.reg barS) 1) $$ Hb
  ihave Hb' := (hd true (.reg barS) 1) $$ Hb'
  isplitl [Hb Hb']
  · iapply (cred_add _ _).2
    isplitl [Hb] <;> iassumption
  isplitl [Hf0]; · iapply (hd false (.dma (xsem false true 0)) N); iexact Hf0
  isplitl [Ht0]; · iapply (hd true (.dma (xsem true true 0)) N); iexact Ht0
  isplitl [Hf1]; · iapply (hd false (.dma (xsem false true 1)) N); iexact Hf1
  isplitl [Ht1]; · iapply (hd true (.dma (xsem true true 1)) N); iexact Ht1
  isplitl [Hf2]; · iapply (hd false (.dma (xsem false true 2)) N); iexact Hf2
  iapply (hd true (.dma (xsem true true 2)) N); iexact Ht2

/-! ## The launch theorem's conditions -/

/-- The transfer semaphores are the call's own. -/
theorem ownSemFacts : Pipeline.OwnSemFacts cfg0.spec osem := by decide
/-- Every window is held whole. -/
theorem share_eq (c : Dev nD) (w : Fin cfg0.W) : (dats m ρ 0 c).share w = fullShare := by unfold Dat.share; split <;> rfl

/-- The launch gives each device its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  icases HG with ⟨HI, Ht⟩
  isplitl
  · isplitl [HI]; · iexact HI
    isplitl [Ht]; · iexact Ht
    isplitl [Hc] <;> iassumption
  · iempintro

/-- The start and the scratch are what the body's invariant asks. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ scratch
  iintro ⟨Hs, -, Hr⟩
  isplitl [Hs] <;> iassumption

/-- The body's end gives back the semaphores and the scratch. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ scratch
  iintro ⟨Hr, HzB, Hz⟩
  isplitl [HzB]; · iexact HzB
  isplitl [Hz] <;> iassumption

/-- The staging counters are none of the transfers'. -/
theorem xsem_ne_stage : ∀ (w : Fin cfg0.W) (s : Fin (cfg0.win w).nbuf) (k : Bool × Bool × Fin 3), xsem k.1 k.2.1 k.2.2 ≠ (cfg0.win w).sem s := by decide
/-- So they lie below every due. -/
theorem stage_lv (w : Fin cfg0.W) (s : Fin (cfg0.win w).nbuf) : roleLv (roleOf ((cfg0.win w).sem s)) = 0 := by
  unfold roleOf
  rw [Finset.filter_false_of_mem fun k _ => xsem_ne_stage w s k, Finset.toList_empty]
  rfl

/-- The staging waits may wait: nothing owed lies below them. -/
theorem waits (c : Dev nD) : (levAts L lv : sProp 𝕄) ⊢ Pipeline.cellsWaits cfgs (dats m ρ) () 0 c :=
  Pipeline.cellsWaits_intro cfgs (dats m ρ) () 0 c fun w s t =>
    mayWait_start c (.dma ((cfg0.win w).sem s)) (stage_lv w s) _ (by
      rcases t with ⟨_ | _, ht⟩
      · exact Or.inl rfl
      · exact Or.inr rfl)

/-! ## The run -/

/-- What each device's arrays hold at the end. -/
def finalA (c : Dev nD) (w : Fin cfg0.W) : Buf (Elt F) ((cfg0.win w).arr.view.loc (c : Thread nD τ)) := (dats m ρ 0 c).arrAt w cfg0.N

/-- On four devices, for any float values and from any memory with zero counters: every weakly fair execution of @main
    terminates, and every final state has each device's arrays at `finalA` and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began. -/
theorem finalA_in (c : Dev nD) (w : Fin cfg0.W) (hw : (cfg0.win w).isOut = false) :
    finalA m ρ c w = (s₀ m ρ).mem ((cfg0.win w).arr.view.loc (c : Thread nD τ)) := (dats m ρ 0 c).arrAt_in w hw _

/-- The run leaves the four arguments as they were and every counter at zero. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h =>
      ⟨fun c => ⟨(h.1 c 0).trans (finalA_in m ρ c 0 rfl), (h.1 c 1).trans (finalA_in m ρ c 1 rfl),
        (h.1 c 2).trans (finalA_in m ρ c 2 rfl), (h.1 c 3).trans (finalA_in m ρ c 3 rfl)⟩, h.2⟩)
    (run_main m ρ)

end Cert.Moe

end
-- ==== Proof.Spec.lean ====
/-
# One entry of the result, in numbers

Sixteen experts, a row of probabilities `p`, the two words that name the row's experts, and the row's product `y` with
each expert's matrix. The reference picks two entries of `y`; the kernel weighs all sixteen, most of them by zero.
Over the extended reals the two agree (`sum_gates`), whatever the words are: a word that names no expert picks zero.
-/
module

public import Idealize.ShloMosaic.Lib.Pointwise
public import Idealize.ShloMosaic.Lib.ValueIdx

@[expose] public section

noncomputable section

namespace Cert.Moe

open Idealize.ShloMosaic

/-- A row of router scores. -/
def scoreRow (x : Fin 512 → EReal) (rw : Fin 512 → Fin 16 → EReal) (j : Fin 16) : EReal := ∑ k, x k * rw k j

/-- The scores' softmax, each exponential shifted by the row's maximum. -/
def softRow (s : Fin 16 → EReal) (j : Fin 16) : EReal :=
  Ideal.div (Ideal.exp (s j - Finset.fold max (Ideal.ofBits FTy.f32 0xFF800000#32) s Finset.univ))
    (∑ i, Ideal.exp (s i - Finset.fold max (Ideal.ofBits FTy.f32 0xFF800000#32) s Finset.univ))

/-- The entry that the word `e` names, zero if it names none. -/
def named (e : BitVec 32) (f : Fin 16 → EReal) : EReal := if h : e.toNat < 16 then f ⟨e.toNat, h⟩ else 0

/-- One if the word `e` names expert `i`. -/
def hit (e : BitVec 32) (i : Fin 16) : EReal := if e = BitVec.ofNat 32 i.val then 1 else 0

/-- The weight the kernel gives expert `i` in a row. -/
def gate (p : Fin 16 → EReal) (e₀ e₁ : BitVec 32) (i : Fin 16) : EReal :=
  Ideal.div (named e₀ p) (named e₀ p + named e₁ p) * hit e₀ i + Ideal.div (named e₁ p) (named e₀ p + named e₁ p) * hit e₁ i

/-- The reference's entry: the two named products, weighed by the two probabilities' shares. -/
def entry (p : Fin 16 → EReal) (e₀ e₁ : BitVec 32) (y : Fin 16 → EReal) : EReal :=
  Ideal.div (named e₀ p) (named e₀ p + named e₁ p) * named e₀ y + Ideal.div (named e₁ p) (named e₀ p + named e₁ p) * named e₁ y

/-- A word names expert `i` exactly when, read as a natural number, it is `i`. -/
theorem eq_ofNat_iff (e : BitVec 32) (i : Fin 16) : e = BitVec.ofNat 32 i.val ↔ e.toNat = i.val := by
  have := i.isLt
  rw [← BitVec.toNat_inj, BitVec.toNat_ofNat, Nat.mod_eq_of_lt (by omega)]

/-- Any multiple of the indicator's sum against `y` is that multiple of the named entry. -/
theorem sum_hit (a : EReal) (e : BitVec 32) (y : Fin 16 → EReal) : ∑ i, a * (hit e i * y i) = a * named e y := by
  unfold named hit
  simp only [eq_ofNat_iff]
  by_cases h : e.toNat < 16
  · rw [dif_pos h, Finset.sum_eq_single (⟨e.toNat, h⟩ : Fin 16)]
    · rw [if_pos rfl, one_mul]
    · intro i _ hi
      rw [if_neg fun h' => hi (Fin.ext h'.symm), zero_mul, mul_zero]
    · exact fun h' => absurd (Finset.mem_univ _) h'
  · rw [dif_neg h, mul_zero]
    refine Finset.sum_eq_zero fun i _ => ?_
    rw [if_neg fun h' => h (by have := i.isLt; omega), zero_mul, mul_zero]

/-- The entry a word names, as the sum of all entries against the indicator. -/
theorem named_eq_sum (e : BitVec 32) (y : Fin 16 → EReal) : ∑ i, y i * hit e i = named e y := by
  have := sum_hit 1 e y
  rw [one_mul] at this
  rw [← this]
  exact Finset.sum_congr rfl fun i _ => by rw [one_mul, mul_comm]

/-- A word either misses expert `i` or is its number. -/
theorem hit_cases (e : BitVec 32) (i : Fin 16) : (hit e i = 0) ∨ (e = BitVec.ofNat 32 i.val ∧ hit e i = 1) := by
  unfold hit; split
  · exact Or.inr ⟨‹_›, rfl⟩
  · exact Or.inl rfl

/-- A weight times a product splits over the two named experts: where both words name the expert the two weights are equal. -/
theorem gate_mul (p : Fin 16 → EReal) (e₀ e₁ : BitVec 32) (i : Fin 16) (y : EReal) :
    gate p e₀ e₁ i * y = Ideal.div (named e₀ p) (named e₀ p + named e₁ p) * (hit e₀ i * y)
      + Ideal.div (named e₁ p) (named e₀ p + named e₁ p) * (hit e₁ i * y) := by
  unfold gate
  rcases hit_cases e₀ i with h0 | ⟨h0, h0'⟩ <;> rcases hit_cases e₁ i with h1 | ⟨h1, h1'⟩
  · rw [h0, h1]; simp only [mul_zero, zero_mul, add_zero]
  · rw [h0, h1']; simp only [mul_zero, zero_mul, zero_add, mul_one, one_mul]
  · rw [h0', h1]; simp only [mul_zero, zero_mul, add_zero, mul_one, one_mul]
  · rw [h0', h1', h0, h1]
    simp only [mul_one, one_mul]
    generalize Ideal.div _ _ = a
    rw [← two_nsmul, ← two_nsmul, EReal.nsmul_eq_mul, EReal.nsmul_eq_mul, mul_assoc]

/-- The kernel's sum over all sixteen experts is the reference's entry. -/
theorem sum_gates (p : Fin 16 → EReal) (e₀ e₁ : BitVec 32) (y : Fin 16 → EReal) :
    ∑ i, gate p e₀ e₁ i * y i = entry p e₀ e₁ y := by
  simp only [gate_mul]
  rw [Finset.sum_add_distrib, sum_hit, sum_hit]
  rfl

end Cert.Moe

end
-- ==== Proof.HalfValue.lean ====
/-
# What one device adds, entry by entry

The definitions of the half sum read at a row and a column over the extended reals, in the terms of the specification.
-/
module

public import proofs.«01_k».proof.Proof.Half
public import proofs.«01_k».proof.Proof.Spec

@[expose] public section

noncomputable section

namespace Cert.Moe

open Cert.KernelIdeal Cert.KernelIdeal.Gen
open Idealize.ShloMosaic Idealize.ShloMosaic.TcCoe

/-- A comparison's bit, widened and read as a number, is one where the two words are equal. -/
theorem flag_eq (a b : BitVec 32) :
    (FloatOps.sitofp (F := Ideal) .f32 (BitVec.setWidth 32 (IntOp.cmpi .eq a b)) : EReal) = if a = b then 1 else 0 := by
  by_cases h : a = b
  · subst h
    have : BitVec.setWidth 32 (IntOp.cmpi .eq a a) = 1#32 := by simp [IntOp.cmpi]
    rw [this, if_pos rfl]
    show ((((1#32 : BitVec 32).toInt : ℝ)) : EReal) = 1
    norm_num
  · have : BitVec.setWidth 32 (IntOp.cmpi .eq a b) = 0#32 := by
      unfold IntOp.cmpi; rw [beq_eq_false_iff_ne.mpr h]; rfl
    rw [this, if_neg h]
    show ((((0#32 : BitVec 32).toInt : ℝ)) : EReal) = 0
    norm_num

/-- The softmax of a row's scores. -/
theorem probsOf_apply (x : FVec Ideal S512x512 .f32) (rw : FVec Ideal S512x16 .f32) (r : Fin 512) (j : Fin 16) :
    probsOf x rw (ix2 r j) = softRow (scoreRow (fun k => x (ix2 r k)) (fun k i => rw (ix2 k i))) j := by
  unfold softRow scoreRow
  pointwise [probsOf, normOf, expsOf, scoresOf]

/-- The sum against the indicator picks the named entry. -/
theorem pickOf_apply (p : FVec Ideal S512x16 .f32) (e : IVec S512x1 32) (r : Fin 512) :
    pickOf p e (ix2 r 0) = named (e (ix2 r 0)) (fun j => p (ix2 r j)) := by
  rw [← named_eq_sum]
  pointwise [pickOf]
  refine Finset.sum_congr rfl fun i _ => ?_
  rw [flag_eq]
  unfold hit
  simp only [eq_comm]

/-- The word device `v` computes for its `k`-th expert is `4 v + k`. -/
theorem word_expert (v k : Fin 4) :
    Scalar.addi (Scalar.muli (BitVec.ofNat 32 v.val) 4#32) (BitVec.ofNat 32 k.val) = BitVec.ofNat 32 (4 * v.val + k.val) := by
  revert v k; decide

/-- The indicator of expert `4 * v + k`. -/
theorem hitOf_apply (v k : Fin 4) (e : IVec S512x1 32) (r : Fin 512) (h : 4 * v.val + k.val < 16) :
    hitOf (F := Ideal) (BitVec.ofNat 32 v.val) (BitVec.ofNat 32 k.val) e (ix2 r 0) = hit (e (ix2 r 0)) ⟨4 * v.val + k.val, h⟩ := by
  unfold hit
  rw [← word_expert]
  pointwise [hitOf]
  rw [flag_eq]

/-- The weight of expert `4 * v + k`. -/
theorem gateOf_apply (v k : Fin 4) (p : FVec Ideal S512x16 .f32) (idx : IVec S512x2 32) (r : Fin 512) (h : 4 * v.val + k.val < 16) :
    gateOf (BitVec.ofNat 32 v.val) (BitVec.ofNat 32 k.val) p idx (ix2 r 0)
      = gate (fun j => p (ix2 r j)) (idx (ix2 r 0)) (idx (ix2 r 1)) ⟨4 * v.val + k.val, h⟩ := by
  have h0 : firstOf idx (ix2 r 0) = idx (ix2 r 0) := by pointwise [firstOf]
  have h1 : secondOf idx (ix2 r 0) = idx (ix2 r 1) := by pointwise [secondOf]
  unfold gate
  rw [← h0, ← h1, ← pickOf_apply, ← pickOf_apply, ← hitOf_apply v k _ r h, ← hitOf_apply v k _ r h]
  rfl

/-- A weighted product at a row and a column. -/
theorem termOf_apply (g : FVec Ideal S512x1 .f32) (xb w : FVec Ideal S512x512 .bf16) (r j : Fin 512) :
    termOf g xb w (ix2 r j) = g (ix2 r 0) * ∑ k : Fin 512, (xb (ix2 r k) : EReal) * w (ix2 k j) := by
  pointwise [termOf]

/-- Four terms added in order to zero. -/
theorem add_four (a b c d : FVec Ideal S512x512 .f32) (i : S512x512.Idx) :
    addf (addf (addf (addf (broadcast S512x512 (Scalar.ofBits .f32 0x00000000#32)) a) b) c) d i = (a i + b i + c i + d i : EReal) := by
  pointwise

/-- What device `v` adds at a row and a column: over its four experts, weight times product. -/
theorem halfRaw_apply (v : Fin 4) (x : Vec Ideal S512x512 .f32) (idx : Vec Ideal S512x2 .i32) (rw : Vec Ideal S512x16 .f32)
    (w : Fin 4 → Vec Ideal S1x512x512 .bf16) (r j : Fin 512) :
    halfRaw (BitVec.ofNat 32 v.val) x idx rw w (ix2 r j)
      = ∑ k : Fin 4, gate (softRow (scoreRow (fun t => x (ix2 r t)) (fun t i => rw (ix2 t i)))) (idx (ix2 r 0)) (idx (ix2 r 1))
          ⟨4 * v.val + k.val, by have := v.isLt; have := k.isLt; omega⟩ * ∑ t : Fin 512, (x (ix2 r t) : EReal) * w k (ix3 0 t j) := by
  have hg : ∀ k : Fin 4, gateOf (F := Ideal) (BitVec.ofNat 32 v.val) (BitVec.ofNat 32 k.val) (probsOf (F := Ideal) x rw) idx (ix2 r 0)
      = gate (softRow (scoreRow (fun t => x (ix2 r t)) (fun t i => rw (ix2 t i)))) (idx (ix2 r 0)) (idx (ix2 r 1))
          ⟨4 * v.val + k.val, by have := v.isLt; have := k.isLt; omega⟩ := by
    intro k
    rw [gateOf_apply v k (probsOf (F := Ideal) x rw) idx r (by have := v.isLt; have := k.isLt; omega)]
    congr 1
    funext i
    exact probsOf_apply x rw r i
  have hw : ∀ (k : Fin 4) (t : Fin 512), shapeCast S512x512 (w k) shapeCasts_S1x512x512_S512x512 (ix2 t j) = w k (ix3 0 t j) := by
    intro k t; pointwise
  unfold halfRaw halfOf
  rw [shapeCast_id, shapeCast_id, shapeCast_id]
  rw [add_four]
  simp only [← hg, ← hw, Fin.sum_univ_four, termOf_apply]
  rfl

/-- What was received at an entry, plus this device's half sum there. -/
theorem joinOf_apply (a : FVec Ideal S512x512 .bf16) (b : FVec Ideal S512x512 .f32) (i : S512x512.Idx) :
    joinOf a b i = (a i + b i : EReal) := rfl

/-- Cutting to the sent width changes no number. -/
theorem packOf_apply (a : FVec Ideal S512x512 .f32) (i : S512x512.Idx) : (packOf a i : EReal) = a i := by
  unfold packOf
  rw [shapeCast_id]
  rfl

end Cert.Moe

end
-- ==== Proof.Value.lean ====
/-
# The kernel's result, entry by entry

What each device's chunk of the result holds over the extended reals: the ring adds up, over the four devices, each
device's four experts' terms, which is the sum over all sixteen experts.
-/
module

public import proofs.«01_k».proof.Proof.Run
public import proofs.«01_k».proof.Proof.HalfValue
public import Idealize.ShloMosaic.Lib.Pipeline.ValueKit.Geometry
public import Idealize.ShloMosaic.Lib.WritesUnit

@[expose] public section

set_option maxRecDepth 16384

noncomputable section

namespace Cert.Moe

open Cert.KernelIdeal Cert.KernelIdeal.Gen
open Idealize.ShloMosaic Idealize.ShloMosaic.TcCoe

section Reads

variable {F : FTy → Type} [FloatOps F]
variable (m : (ℓ : Loc nD τ sig) → Buf (Elt F) ℓ) (ρ : Dev nD → PrngReg)

/-! ## What is staged is the argument -/

/-- The staged rows are the argument itself. -/
theorem xAt_eq (c : Dev nD) : xAt m ρ c = m ((c : Thread nD τ).loc main_arg0) :=
  funext fun y => congrArg (m ((c : Thread nD τ).loc main_arg0))
    (funext fun a => Fin.ext (Pipeline.Window.rect_emb_val_of_index_zero win0_0 (0 : Fin 1) a (by revert a; decide) y))
/-- The staged router's matrix is the argument itself. -/
theorem rAt_eq (c : Dev nD) : rAt m ρ c = m ((c : Thread nD τ).loc main_arg1) :=
  funext fun y => congrArg (m ((c : Thread nD τ).loc main_arg1))
    (funext fun a => Fin.ext (Pipeline.Window.rect_emb_val_of_index_zero win0_1 (0 : Fin 1) a (by revert a; decide) y))
/-- The staged words are the argument itself. -/
theorem iAt_eq (c : Dev nD) : iAt m ρ c = m ((c : Thread nD τ).loc main_arg2) :=
  funext fun y => congrArg (m ((c : Thread nD τ).loc main_arg2))
    (funext fun a => Fin.ext (Pipeline.Window.rect_emb_val_of_index_zero win0_2 (0 : Fin 1) a (by revert a; decide) y))
/-- The staged experts are the argument itself. -/
theorem eAt_eq (c : Dev nD) : eAt m ρ c = m ((c : Thread nD τ).loc main_arg3) :=
  funext fun y => congrArg (m ((c : Thread nD τ).loc main_arg3))
    (funext fun a => Fin.ext (Pipeline.Window.rect_emb_val_of_index_zero win0_3 (0 : Fin 1) a (by revert a; decide) y))

/-! ## What the result's array holds -/

/-- The result has one block, the whole array, written back at the one point. -/
theorem out_whole : (cfg0.win 4).WholeAt ⟨0, Nat.zero_lt_one⟩ := by
  unfold Pipeline.Window.WholeAt; decide

/-- The output's window holds what the run left there. -/
theorem out_after (c : Dev nD) (t : Fin cfg0.N) : (dats m ρ 0 c).after 4 t = outAt m ρ c := by
  dsimp only [dats]

/-- The one write-back puts the whole staged result into the array. -/
theorem final_eq (c : Dev nD) : finalA m ρ c 4 = outAt m ρ c :=
  Pipeline.Dat.arrAt_eq_of_after_last (dats m ρ 0 c) 4 ⟨0, Nat.zero_lt_one⟩ out_whole (outAt m ρ c) fun j => by
    rw [out_after]
    generalize outAt m ρ c = o
    rfl

end Reads

/-! ## One load at an entry -/

/-- A row of chunk `k` in the whole array. -/
abbrev rowIn (k : Fin 4) (r : Fin 512) : Fin 2048 := ⟨512 * k.val + r.val, by have := k.isLt; have := r.isLt; omega⟩
/-- A column of the half that direction `d` carries in the whole array. -/
abbrev colIn (d : Bool) (j : Fin 512) : Fin 1024 := ⟨(bif d then 512 else 0) + j.val, by have := j.isLt; cases d <;> simp <;> omega⟩

/-- Reading chunk `k` of the rows reads rows `512 k` onwards. -/
theorem read_x {F : FTy → Type} (X : S2048x512.Idx → Elt F .f32) (k : Fin 4) (r t : Fin 512) :
    xM.view.readAt (Elt F) (Rect.unit (s := S2048x512) ![512 * k.val, 0] S512x512.size (row_inb k)).toLoadRect X (ix2 r t)
      = X (ix2 (rowIn k r) t) :=
  congrArg X (funext fun a => Fin.ext (match a with
    | ⟨0, _⟩ => (by show 512 * k.val + 1 * r.val = 512 * k.val + r.val; omega)
    | ⟨1, _⟩ => (by show 0 + 1 * t.val = t.val; omega)))
/-- Reading chunk `k` of the words reads rows `512 k` onwards. -/
theorem read_i {F : FTy → Type} (X : S2048x2.Idx → Elt F .i32) (k : Fin 4) (r : Fin 512) (t : Fin 2) :
    iM.view.readAt (Elt F) (Rect.unit (s := S2048x2) ![512 * k.val, 0] S512x2.size (idx_inb k)).toLoadRect X (ix2 r t)
      = X (ix2 (rowIn k r) t) :=
  congrArg X (funext fun a => Fin.ext (match a with
    | ⟨0, _⟩ => (by show 512 * k.val + 1 * r.val = 512 * k.val + r.val; omega)
    | ⟨1, _⟩ => (by show 0 + 1 * t.val = t.val; omega)))
/-- Reading the router's matrix reads all of it. -/
theorem read_r {F : FTy → Type} (X : S512x16.Idx → Elt F .f32) (t : Fin 512) (i : Fin 16) :
    rM.view.readAt (Elt F) (Rect.unit (s := S512x16) ![0, 0] S512x16.size rtr_inb).toLoadRect X (ix2 t i) = X (ix2 t i) :=
  congrArg X (funext fun a => Fin.ext (match a with
    | ⟨0, _⟩ => (by show 0 + 1 * t.val = t.val; omega)
    | ⟨1, _⟩ => (by show 0 + 1 * i.val = i.val; omega)))
/-- Reading half `d` of expert `e` reads the columns of that half. -/
theorem read_w {F : FTy → Type} (X : S4x512x1024.Idx → Elt F .bf16) (d : Bool) (e : Fin 4) (t j : Fin 512) :
    wM.view.readAt (Elt F) (Rect.unit (s := S4x512x1024) ![e.val, 0, bif d then 512 else 0] S1x512x512.size (exp_inb d e)).toLoadRect X (ix3 0 t j)
      = X (ix3 e t (colIn d j)) :=
  congrArg X (funext fun a => Fin.ext (match a with
    | ⟨0, _⟩ => (by show e.val + 1 * 0 = e.val; omega)
    | ⟨1, _⟩ => (by show 0 + 1 * t.val = t.val; omega)
    | ⟨2, _⟩ => (by show (bif d then 512 else 0) + 1 * j.val = (bif d then 512 else 0) + j.val; omega)))

variable (m : (ℓ : Loc nD τ sig) → Buf (Elt Ideal) ℓ) (ρ : Dev nD → PrngReg)

/-- The rows, the router's matrix, the named experts and the four experts that device `c` is given. -/
abbrev argX (c : Dev nD) : FVec Ideal S2048x512 .f32 := m ((c : Thread nD τ).loc main_arg0)
/-- Device `c`'s router matrix. -/
abbrev argR (c : Dev nD) : FVec Ideal S512x16 .f32 := m ((c : Thread nD τ).loc main_arg1)
/-- Device `c`'s words. -/
abbrev argI (c : Dev nD) : IVec S2048x2 32 := m ((c : Thread nD τ).loc main_arg2)
/-- Device `c`'s four experts. -/
abbrev argE (c : Dev nD) : FVec Ideal S4x512x1024 .f32 := m ((c : Thread nD τ).loc main_arg3)

/-- At exact arithmetic the narrowed experts are the experts. -/
theorem wAt_eq (c : Dev nD) (i : S4x512x1024.Idx) : (wAt m ρ c i : EReal) = argE m c i := by
  unfold wAt k0_pay3
  rw [shapeCast_id, shapeCast_id, eAt_eq]
  rfl

/-- The kernel's word for a device is the device's number. -/
theorem me_eq (c : Dev nD) : me c = BitVec.ofNat 32 c.val := by revert c; decide

/-- The softmax of a row's scores, as device `c` holds the rows and the router's matrix. -/
def probsAt (c : Dev nD) (R : Fin 2048) : Fin 16 → EReal :=
  softRow (scoreRow (fun t => argX m c (ix2 R t)) (fun t i => argR m c (ix2 t i)))
/-- The product of a row with device `c`'s expert `e`, at a column. -/
def prodAt (c : Dev nD) (R : Fin 2048) (C : Fin 1024) (e : Fin 4) : EReal :=
  ∑ t : Fin 512, (argX m c (ix2 R t) : EReal) * argE m c (ix3 e t C)
/-- Expert `e` of device `c` among all sixteen. -/
abbrev expertOf (c : Dev nD) (e : Fin 4) : Fin 16 := ⟨4 * c.val + e.val, by have : c.val < 4 := c.isLt; have := e.isLt; omega⟩
/-- What device `c` adds to the result at a row and a column: its four experts, weight times product. -/
def devSum (c : Dev nD) (R : Fin 2048) (C : Fin 1024) : EReal :=
  ∑ e : Fin 4, gate (probsAt m c R) (argI m c (ix2 R 0)) (argI m c (ix2 R 1)) (expertOf c e) * prodAt m c R C e

/-- A device's half sum at an entry. -/
theorem part_apply (d : Bool) (k : Fin 4) (c : Dev nD) (r j : Fin 512) :
    part m ρ d k c (ix2 r j) = devSum m c (rowIn k r) (colIn d j) := by
  unfold part
  rw [me_eq, xAt_eq, iAt_eq, rAt_eq]
  refine (halfRaw_apply c _ _ _ _ r j).trans (Finset.sum_congr rfl fun e _ => ?_)
  have hs := congrArg₂ (fun a b => softRow (scoreRow a b)) (funext fun t => read_x (F := Ideal) (argX m c) k r t)
    (funext fun t => funext fun i => read_r (F := Ideal) (argR m c) t i)
  have h0 := read_i (F := Ideal) (argI m c) k r 0
  have h1 := read_i (F := Ideal) (argI m c) k r 1
  refine congrArg₂ (fun a b : EReal => a * b) ?_ (Finset.sum_congr rfl fun t _ =>
    congrArg₂ (fun a b : EReal => a * b) (read_x (F := Ideal) (argX m c) k r t) ((read_w (F := Ideal) _ d e t j).trans (wAt_eq m ρ c _)))
  exact (congrArg (fun p => gate p _ _ _) hs).trans (congrArg₂ (fun a b => gate _ a b _) h0 h1)

/-! ## The ring's sum -/

/-- The chunk that reaches device `c` at the last hop is `c`'s own, and it is the one each device before it worked on. -/
theorem chunk_home : ∀ (d : Bool) (c : Dev nD), chunkAt d 3 c = c ∧ chunkAt d (Fin.ofNat 4 2) (fro d c) = c
    ∧ chunkAt d (Fin.ofNat 4 1) (fro d (fro d c)) = c ∧ chunkAt d 0 (fro d (fro d (fro d c))) = c := by decide

/-- A device, by how many transfers its half sum makes before it reaches device `c`. -/
def back (d : Bool) (c : Dev nD) : Fin 4 → Dev nD := ![fro d (fro d (fro d c)), fro d (fro d c), fro d c, c]

/-- Going back nought to three times from a device meets every device once. -/
theorem back_bij : ∀ (d : Bool) (c : Dev nD), Function.Bijective (back d c) := by unfold Function.Bijective Function.Injective Function.Surjective; decide

/-- Going three times back from a device, with the device itself, meets every device once. -/
theorem ring_sum (d : Bool) (c : Dev nD) (g : Dev nD → EReal) :
    g (fro d (fro d (fro d c))) + g (fro d (fro d c)) + g (fro d c) + g c = ∑ v : Dev nD, g v := by
  rw [← (back_bij d c).sum_comp g, Fin.sum_univ_four]
  rfl

/-- Each half a device ends with, at an entry: what all four devices add there. -/
theorem total_apply (d : Bool) (c : Dev nD) (r j : Fin 512) :
    total m ρ d c (ix2 r j) = ∑ v : Dev nD, devSum m v (rowIn c r) (colIn d j) := by
  obtain ⟨h3, h2, h1, h0⟩ := chunk_home d c
  rw [← ring_sum d c]
  unfold total sent sent sent
  rw [h3, h2, h1, h0]
  simp only [joinOf_apply, packOf_apply, part_apply]

/-- The sixteen experts, four to a device. -/
theorem expertOf_bij : Function.Bijective fun k : Fin 4 × Fin 4 => expertOf k.1 k.2 := by
  unfold Function.Bijective Function.Injective Function.Surjective; decide

/-- A sum over devices and their own experts is the sum over all sixteen experts. -/
theorem sum_experts (f : Fin 16 → EReal) : ∑ c : Dev nD, ∑ e : Fin 4, f (expertOf c e) = ∑ i, f i := by
  rw [← expertOf_bij.sum_comp f, Fintype.sum_prod_type]

/-! ## The halves of the result -/

/-- Two halves stored side by side, at an entry of either. -/
theorem halves_apply {F : FTy → Type} (f : oM.view.ty.Contents (Elt F)) (A B : S512x512.Idx → Elt F .f32) (d : Bool) (r j : Fin 512) :
    oM.view.read (Elt F) (oM.view.writes (Elt F) f
      [⟨Rect.unit (s := S512x1024) ![0, 512] S512x512.size inb_S512x1024_S512x512_0_512, A⟩,
       ⟨Rect.unit (s := S512x1024) ![0, 0] S512x512.size inb_S512x1024_S512x512_0_0, B⟩]) (ix2 r (colIn d j))
      = (bif d then A else B) (ix2 r j) := by
  cases d
  · rw [View.read_writes_cons_unit_of_not_mem oM.view f inb_S512x1024_S512x512_0_512 A _ (ix2 r (colIn false j)) rfl (1 : Fin 2)
      (Or.inl (by show 0 + j.val < 512; have := j.isLt; omega))]
    exact View.read_writes_cons_unit_of_mem oM.view f inb_S512x1024_S512x512_0_0 B [] (ix2 r (colIn false j)) (ix2 r j) rfl
      (Fin.forall_fin_two.mpr ⟨(Nat.zero_add _).symm, rfl⟩)
  · exact View.read_writes_cons_unit_of_mem oM.view f inb_S512x1024_S512x512_0_512 A _ (ix2 r (colIn true j)) (ix2 r j) rfl
      (Fin.forall_fin_two.mpr ⟨(Nat.zero_add _).symm, rfl⟩)

/-- Each half of the result's columns is what the ring of its direction ends with. -/
theorem out_apply {F : FTy → Type} [FloatOps F] (m : (ℓ : Loc nD τ sig) → Buf (Elt F) ℓ) (d : Bool) (c : Dev nD) (r j : Fin 512) :
    oM.view.read (Elt F) (outAt m ρ c) (ix2 r (colIn d j)) = total m ρ d c (ix2 r j) := by
  unfold outAt
  rw [halves_apply]
  cases d <;> exact rfl

/-- Every column lies in one of the two halves. -/
theorem col_cases (C : Fin 1024) : ∃ d j, C = colIn d j := by
  have hC := C.isLt
  by_cases h : C.val < 512
  · exact ⟨false, ⟨C.val, h⟩, Fin.ext (Nat.zero_add _).symm⟩
  · exact ⟨true, ⟨C.val - 512, by omega⟩, Fin.ext (by show C.val = 512 + (C.val - 512); omega)⟩

/-- The chunk of the result that device `c` ends with. -/
def resultAt {F : FTy → Type} [FloatOps F] (m : (ℓ : Loc nD τ sig) → Buf (Elt F) ℓ) (ρ : Dev nD → PrngReg) (c : Dev nD) :
    Vec F S512x1024 .f32 := oM.view.read (Elt F) (outAt m ρ c)

/-- The run leaves that chunk in the result's array. -/
theorem final_result {F : FTy → Type} [FloatOps F] (m : (ℓ : Loc nD τ sig) → Buf (Elt F) ℓ) (ρ : Dev nD → PrngReg) (c : Dev nD) :
    finalA m ρ c 4 = resultAt m ρ c := by
  rw [final_eq]
  unfold resultAt
  generalize outAt m ρ c = o
  rfl

/-- An entry of that chunk: what all four devices add there. -/
theorem result_apply (c : Dev nD) (r : Fin 512) (C : Fin 1024) :
    resultAt m ρ c (ix2 r C) = ∑ v : Dev nD, devSum m v (rowIn c r) C := by
  obtain ⟨d, j, rfl⟩ := col_cases C
  exact (out_apply ρ m d c r j).trans (total_apply m ρ d c r j)

/-- Where all devices hold the same rows, router's matrix and named experts, and each its four of the sixteen experts, an
    entry of the result is the specification's. -/
theorem result_entry (X : FVec Ideal S2048x512 .f32) (R : FVec Ideal S512x16 .f32) (I : IVec S2048x2 32)
    (W : (⟨3, ![16, 512, 1024]⟩ : Shape).Idx → EReal)
    (hX : ∀ v : Dev nD, argX m v = X) (hR : ∀ v : Dev nD, argR m v = R) (hI : ∀ v : Dev nD, argI m v = I)
    (hE : ∀ (v : Dev nD) (e : Fin 4) (t : Fin 512) (C : Fin 1024), argE m v (ix3 e t C) = W (ix3 (expertOf v e) t C))
    (c : Dev nD) (r : Fin 512) (C : Fin 1024) :
    resultAt m ρ c (ix2 r C) = entry (softRow (scoreRow (fun t => X (ix2 (rowIn c r) t)) (fun t i => R (ix2 t i))))
      (I (ix2 (rowIn c r) 0)) (I (ix2 (rowIn c r) 1)) (fun i => ∑ t : Fin 512, (X (ix2 (rowIn c r) t) : EReal) * W (ix3 i t C)) := by
  rw [result_apply, ← sum_gates, ← sum_experts]
  refine Finset.sum_congr rfl fun v _ => Finset.sum_congr rfl fun e _ => ?_
  unfold prodAt probsAt
  rw [hX, hR, hI]
  simp only [hE]

end Cert.Moe

end
-- ==== Proof.RefValue.lean ====
/-
# The reference, entry by entry

The reference's result as one expression of its arguments, and that expression read at a row and a column over the
extended reals, in the terms of the specification.
-/
module

public import proofs.«01_k».proof.Proof.Gen.ReferenceIdeal.Run
public import proofs.«01_k».proof.Proof.Spec
public import Idealize.ShloMosaic.Lib.StableHlo.Predicate

@[expose] public section

set_option maxRecDepth 16384

noncomputable section

namespace Cert.Moe.Ref

open Cert.ReferenceIdeal Cert.ReferenceIdeal.Gen
open Idealize.ShloMosaic Idealize.ShloMosaic.TcCoe

variable {F : FTy → Type} [FloatOps F]

/-- The routing probabilities of every row. -/
def probsR (x : FVec F S2048x512 .f32) (rw : FVec F S512x16 .f32) : FVec F S2048x16 .f32 :=
  have s : FVec F S2048x16 .f32 := Host.dotGeneral dot_S2048x512_S512x16_S2048x16_1_0_0_1_n_n none x rw
  have e : FVec F S2048x16 .f32 := Host.exp (subf s (broadcastInDim S2048x16 ![0, 1] bcast_S2048x1_S2048x16_0_1
    (broadcastInDim S2048x1 ![0] bcast_S2048_S2048x1_0
      (Host.reduce FloatOps.maximumf s (constant S_ .f32 0xFF800000#32) reducesTo_S2048x16_S2048_d1 h_S_))))
  Host.divf e (broadcastInDim S2048x16 ![0, 1] bcast_S2048x1_S2048x16_0_1
    (broadcastInDim S2048x1 ![0] bcast_S2048_S2048x1_0 (Host.reduceAdd e (constant S_ .f32 0x00000000#32) reducesTo_S2048x16_S2048_d1 h_S_)))

/-- Each row's number beside the expert word it names. -/
def pairs (e : IVec S2048 32) : IVec S2048x2 32 :=
  concatenate S2048x2 1 [⟨S2048x1, broadcastInDim S2048x1 ![0] bcast_S2048_S2048x1_0 (iotaInDim S2048 32 0)⟩,
    ⟨S2048x1, broadcastInDim S2048x1 ![0] bcast_S2048_S2048x1_0 e⟩] concatenates_S2048x1_S2048x1_S2048x2_d1

/-- Whether a row's pair lies inside the table. -/
def inside (e : IVec S2048 32) : IVec S2048 1 :=
  Host.reduce IntOp.andi (andi (cmpi .sge (pairs e) (broadcastInDim S2048x2 ![] bcast_S_S2048x2 (constantI S_ 32 0#32)))
    (cmpi .sle (pairs e) (broadcastInDim S2048x2 ![0, 1] bcast_S1x2_S2048x2_0_1
      (broadcastInDim S1x2 ![1] bcast_S2_S1x2_1 (fun i => lit0 (S2.rowMajor i)))))) (constantI S_ 1 1#1) reducesTo_S2048x2_S2048_d1 h_S_

/-- In each row the probability its word names, zero where it names none. -/
def pickP (p : FVec F S2048x16 .f32) (e : IVec S2048 32) : FVec F S2048 .f32 :=
  select (inside e) (Host.gather gather_S2048x16_S2048x2_S2048_n_01_n_n_01_1_11 p (pairs e))
    (broadcastInDim S2048 ![] bcast_S_S2048 (constant S_ .f32 0x00000000#32))

/-- In each row the product with the expert its word names, zero where it names none. -/
def pickY (y : FVec F S2048x16x1024 .f32) (e : IVec S2048 32) : FVec F S2048x1024 .f32 :=
  select (broadcastInDim S2048x1024 ![0] bcast_S2048_S2048x1024_0 (inside e))
    (Host.gather gather_S2048x16x1024_S2048x2_S2048x1024_1_01_n_n_01_1_111024 y (pairs e))
    (broadcastInDim S2048x1024 ![] bcast_S_S2048x1024 (constant S_ .f32 0x00000000#32))

/-- The words in one column of the named experts. -/
def firstR (idx : IVec S2048x2 32) : IVec S2048 32 :=
  shapeCast _ (extractStridedSlice S2048x1 ![0, 0] idx slices_S2048x2_S2048x1_0_0) shapeCasts_S2048x1_S2048
/-- The words in the other column. -/
def secondR (idx : IVec S2048x2 32) : IVec S2048 32 :=
  shapeCast _ (extractStridedSlice S2048x1 ![0, 1] idx slices_S2048x2_S2048x1_0_1) shapeCasts_S2048x1_S2048

/-- A row's weight laid along the columns. -/
def along (g : FVec F S2048 .f32) : FVec F S2048x1024 .f32 :=
  broadcastInDim S2048x1024 ![0, 1] bcast_S2048x1_S2048x1024_0_1 (broadcastInDim S2048x1 ![0] bcast_S2048_S2048x1_0 g)

/-- Every row's product with every expert's matrix. -/
def prods (x : FVec F S2048x512 .f32) (W : FVec F S16x512x1024 .f32) : FVec F S2048x16x1024 .f32 :=
  Host.dotGeneral dot_S2048x512_S16x512x1024_S2048x16x1024_1_1_0_02_n_n none x W

/-- The reference's result. -/
def refOut (x : FVec F S2048x512 .f32) (rw : FVec F S512x16 .f32) (idx : IVec S2048x2 32) (W : FVec F S16x512x1024 .f32) : FVec F S2048x1024 .f32 :=
  have g₀ : FVec F S2048 .f32 := pickP (probsR x rw) (firstR idx)
  have g₁ : FVec F S2048 .f32 := pickP (probsR x rw) (secondR idx)
  addf (mulf (along (Host.divf g₀ (addf g₀ g₁))) (pickY (prods x W) (firstR idx)))
    (mulf (along (Host.divf g₁ (addf g₀ g₁))) (pickY (prods x W) (secondR idx)))

/-- The run's result is that expression of the four arguments. -/
theorem out_eq (m : (ℓ : Loc nD τ sig) → Buf (Elt F) ℓ) (c : Dev nD) : Value.res_out0 m c
    = refOut (m ((c : Thread nD τ).loc main_arg0)) (m ((c : Thread nD τ).loc main_arg1)) (m ((c : Thread nD τ).loc main_arg2))
        (m ((c : Thread nD τ).loc main_arg3)) := by
  rfl

/-! ## Entries -/

/-- The reference's probabilities at one row are the softmax of the row's scores. -/
theorem probsR_apply (x : FVec Ideal S2048x512 .f32) (rw : FVec Ideal S512x16 .f32) (r : Fin 2048) (j : Fin 16) :
    probsR x rw (ix2 r j) = softRow (scoreRow (fun k => x (ix2 r k)) (fun k i => rw (ix2 k i))) j := by
  unfold softRow scoreRow
  pointwise [probsR]

/-- The first word of a lookup's index pair is the row. -/
theorem pairs_row (e : IVec S2048 32) (r : Fin 2048) : pairs e (ix2 r 0) = BitVec.ofNat 32 r.val := by pointwise [pairs]
/-- The second word of a lookup's index pair is the named expert. -/
theorem pairs_word (e : IVec S2048 32) (r : Fin 2048) : pairs e (ix2 r 1) = e (ix1 r) := by pointwise [pairs]

/-- Two signed comparisons joined, as one statement about the word read as an integer. -/
theorem between (e b : BitVec 32) :
    IntOp.andi (IntOp.cmpi .sge e 0#32) (IntOp.cmpi .sle e b) = if 0 ≤ e.toInt ∧ e.toInt ≤ b.toInt then 1#1 else 0#1 := by
  show BitVec.ofBool (decide ((0#32).toInt ≤ e.toInt)) &&& BitVec.ofBool (decide (e.toInt ≤ b.toInt)) = _
  rw [show (0#32).toInt = 0 from rfl]
  by_cases h0 : 0 ≤ e.toInt <;> by_cases h1 : e.toInt ≤ b.toInt
  · rw [if_pos ⟨h0, h1⟩, decide_eq_true h0, decide_eq_true h1]; rfl
  · rw [if_neg fun h => h1 h.2, decide_eq_true h0, decide_eq_false h1]; rfl
  · rw [if_neg fun h => h0 h.1, decide_eq_false h0, decide_eq_true h1]; rfl
  · rw [if_neg fun h => h0 h.1, decide_eq_false h0, decide_eq_false h1]; rfl

/-- A row's number as a word reads back as itself. -/
theorem row_int (r : Fin 2048) : (BitVec.ofNat 32 r.val).toInt = r.val :=
  StableHlo.Predicate.toInt_ofNat_small _ (by have := r.isLt; omega)

/-- A row's number lies inside the table. -/
theorem row_ok (r : Fin 2048) :
    IntOp.andi (IntOp.cmpi .sge (BitVec.ofNat 32 r.val) 0#32) (IntOp.cmpi .sle (BitVec.ofNat 32 r.val) 2047#32) = 1#1 := by
  rw [between, row_int, show (2047#32).toInt = 2047 from rfl, if_pos (by have := r.isLt; omega)]

/-- A word lies between zero and fifteen, read signed, exactly where it is below sixteen read unsigned. -/
theorem word_ok (e : BitVec 32) :
    IntOp.andi (IntOp.cmpi .sge e 0#32) (IntOp.cmpi .sle e 15#32) = if e.toNat < 16 then 1#1 else 0#1 := by
  rw [between, show (15#32).toInt = 15 from rfl, BitVec.toInt_eq_toNat_cond]
  have := e.isLt
  congr 1
  apply propext
  split <;> omega

/-- A row's pair lies inside the table exactly where its word names an expert. -/
theorem inside_apply (e : IVec S2048 32) (r : Fin 2048) : inside e (ix1 r) = if (e (ix1 r)).toNat < 16 then 1#1 else 0#1 := by
  rw [← word_ok]
  have hl0 : lit0 (S2.rowMajor (ix1 0)) = 2047#32 := rfl
  have hl1 : lit0 (S2.rowMajor (ix1 1)) = 15#32 := rfl
  pointwise [inside, pairs]
  rw [show (Finset.univ : Finset (Fin 2)) = {0, 1} from rfl, Finset.fold_insert (by decide), Finset.fold_singleton, hl0, hl1]
  rw [dif_pos (by decide), dif_neg (by decide), row_ok]
  generalize IntOp.andi (IntOp.cmpi .sge (e (ix1 r)) 0#32) (IntOp.cmpi .sle (e (ix1 r)) 15#32) = b
  revert b; decide

/-- Where the word names an expert the table of probabilities is read at the row and that expert. -/
theorem gatherP_idx (e : IVec S2048 32) (r : Fin 2048) (h : (e (ix1 r)).toNat < 16) :
    (gather_S2048x16_S2048x2_S2048_n_01_n_n_01_1_11).operandIdx (ix1 r) (pairs e) = ix2 r ⟨_, h⟩ := by
  funext a
  apply Fin.ext
  match a with
  | ⟨0, _⟩ =>
    have h0 : ((gather_S2048x16_S2048x2_S2048_n_01_n_n_01_1_11).operandIdx (ix1 r) (pairs e) 0).val
        = min (pairs e ((gather_S2048x16_S2048x2_S2048_n_01_n_n_01_1_11).siIdx (ix1 r) ⟨0, by decide⟩)).toInt.toNat 2047 := rfl
    have hi : (gather_S2048x16_S2048x2_S2048_n_01_n_n_01_1_11).siIdx (ix1 r) ⟨0, by decide⟩ = ix2 r 0 := by
      funext b; match b with
      | ⟨0, _⟩ => rfl
      | ⟨1, _⟩ => rfl
    refine h0.trans ?_
    rw [hi]
    rw [pairs_row, row_int]
    show _ = r.val
    have := r.isLt; omega
  | ⟨1, _⟩ =>
    have h0 : ((gather_S2048x16_S2048x2_S2048_n_01_n_n_01_1_11).operandIdx (ix1 r) (pairs e) 1).val
        = min (pairs e ((gather_S2048x16_S2048x2_S2048_n_01_n_n_01_1_11).siIdx (ix1 r) ⟨1, by decide⟩)).toInt.toNat 15 := rfl
    have hi : (gather_S2048x16_S2048x2_S2048_n_01_n_n_01_1_11).siIdx (ix1 r) ⟨1, by decide⟩ = ix2 r 1 := by
      funext b; match b with
      | ⟨0, _⟩ => rfl
      | ⟨1, _⟩ => rfl
    refine h0.trans ?_
    rw [hi]
    rw [pairs_word, StableHlo.Predicate.toInt_eq_toNat_of_lt (by omega)]
    show _ = (e (ix1 r)).toNat
    omega

/-- Where the word names an expert the table of products is read at the row, that expert and the column. -/
theorem gatherY_idx (e : IVec S2048 32) (r : Fin 2048) (c : Fin 1024) (h : (e (ix1 r)).toNat < 16) :
    (gather_S2048x16x1024_S2048x2_S2048x1024_1_01_n_n_01_1_111024).operandIdx (ix2 r c) (pairs e) = ix3 r ⟨_, h⟩ c := by
  funext a
  apply Fin.ext
  match a with
  | ⟨0, _⟩ =>
    have h0 : ((gather_S2048x16x1024_S2048x2_S2048x1024_1_01_n_n_01_1_111024).operandIdx (ix2 r c) (pairs e) 0).val
        = min (pairs e ((gather_S2048x16x1024_S2048x2_S2048x1024_1_01_n_n_01_1_111024).siIdx (ix2 r c) ⟨0, by decide⟩)).toInt.toNat 2047 := rfl
    have hi : (gather_S2048x16x1024_S2048x2_S2048x1024_1_01_n_n_01_1_111024).siIdx (ix2 r c) ⟨0, by decide⟩ = ix2 r 0 := by
      funext b; match b with
      | ⟨0, _⟩ => rfl
      | ⟨1, _⟩ => rfl
    refine h0.trans ?_
    rw [hi]
    rw [pairs_row, row_int]
    show _ = r.val
    have := r.isLt; omega
  | ⟨1, _⟩ =>
    have h0 : ((gather_S2048x16x1024_S2048x2_S2048x1024_1_01_n_n_01_1_111024).operandIdx (ix2 r c) (pairs e) 1).val
        = min (pairs e ((gather_S2048x16x1024_S2048x2_S2048x1024_1_01_n_n_01_1_111024).siIdx (ix2 r c) ⟨1, by decide⟩)).toInt.toNat 15 := rfl
    have hi : (gather_S2048x16x1024_S2048x2_S2048x1024_1_01_n_n_01_1_111024).siIdx (ix2 r c) ⟨1, by decide⟩ = ix2 r 1 := by
      funext b; match b with
      | ⟨0, _⟩ => rfl
      | ⟨1, _⟩ => rfl
    refine h0.trans ?_
    rw [hi]
    rw [pairs_word, StableHlo.Predicate.toInt_eq_toNat_of_lt (by omega)]
    show _ = (e (ix1 r)).toNat
    omega
  | ⟨2, _⟩ =>
    have h0 : ((gather_S2048x16x1024_S2048x2_S2048x1024_1_01_n_n_01_1_111024).operandIdx (ix2 r c) (pairs e) 2).val
        = 0 + 0 + c.val := rfl
    refine h0.trans ?_
    show _ = c.val
    omega

/-- The probability a row's word names. -/
theorem pickP_apply (p : FVec Ideal S2048x16 .f32) (e : IVec S2048 32) (r : Fin 2048) :
    pickP p e (ix1 r) = named (e (ix1 r)) fun j => p (ix2 r j) := by
  have h : pickP p e (ix1 r) = Scalar.select (inside e (ix1 r))
      (Host.gather gather_S2048x16_S2048x2_S2048_n_01_n_n_01_1_11 p (pairs e) (ix1 r)) (0 : EReal) := by pointwise [pickP]
  rw [h, inside_apply]
  unfold named Host.gather
  split
  · rename_i h'; rw [gatherP_idx e r h']; exact if_pos rfl
  · exact if_neg (by decide)

/-- The product a row's word names, at a column. -/
theorem pickY_apply (y : FVec Ideal S2048x16x1024 .f32) (e : IVec S2048 32) (r : Fin 2048) (c : Fin 1024) :
    pickY y e (ix2 r c) = named (e (ix1 r)) fun j => y (ix3 r j c) := by
  have h : pickY y e (ix2 r c) = Scalar.select (inside e (ix1 r))
      (Host.gather gather_S2048x16x1024_S2048x2_S2048x1024_1_01_n_n_01_1_111024 y (pairs e) (ix2 r c)) (0 : EReal) := by pointwise [pickY]
  rw [h, inside_apply]
  unfold named Host.gather
  split
  · rename_i h'; rw [gatherY_idx e r c h']; exact if_pos rfl
  · exact if_neg (by decide)

/-- The reference's product of row `r` with expert `i`, entry by entry. -/
theorem prods_apply (x : FVec Ideal S2048x512 .f32) (W : FVec Ideal S16x512x1024 .f32) (r : Fin 2048) (i : Fin 16) (c : Fin 1024) :
    prods x W (ix3 r i c) = ∑ t : Fin 512, (x (ix2 r t) : EReal) * W (ix3 i t c) := by
  pointwise [prods]

/-- The reference's result at a row and a column. -/
theorem refOut_apply (x : FVec Ideal S2048x512 .f32) (rw : FVec Ideal S512x16 .f32) (idx : IVec S2048x2 32)
    (W : FVec Ideal S16x512x1024 .f32) (r : Fin 2048) (c : Fin 1024) :
    refOut x rw idx W (ix2 r c) = entry (softRow (scoreRow (fun t => x (ix2 r t)) (fun t i => rw (ix2 t i))))
      (idx (ix2 r 0)) (idx (ix2 r 1)) (fun i => ∑ t : Fin 512, (x (ix2 r t) : EReal) * W (ix3 i t c)) := by
  have h0 : firstR idx (ix1 r) = idx (ix2 r 0) := by pointwise [firstR]
  have h1 : secondR idx (ix1 r) = idx (ix2 r 1) := by pointwise [secondR]
  have ha : ∀ g : FVec Ideal S2048 .f32, along g (ix2 r c) = g (ix1 r) := by intro g; pointwise [along]
  have hp : ∀ e : IVec S2048 32, pickP (probsR x rw) e (ix1 r)
      = named (e (ix1 r)) (softRow (scoreRow (fun t => x (ix2 r t)) (fun t i => rw (ix2 t i)))) := by
    intro e
    rw [pickP_apply]
    congr 1
    funext j
    exact probsR_apply x rw r j
  have hy : ∀ e : IVec S2048 32, pickY (prods x W) e (ix2 r c)
      = named (e (ix1 r)) (fun i => ∑ t : Fin 512, (x (ix2 r t) : EReal) * W (ix3 i t c)) := by
    intro e
    rw [pickY_apply]
    congr 1
    funext j
    exact prods_apply x W r j c
  unfold entry
  rw [← h0, ← h1, ← hp, ← hp, ← hy, ← hy]
  refine congrArg₂ (fun a b : EReal => a + b) (congrArg₂ (fun a b : EReal => a * b) (ha _) rfl) (congrArg₂ (fun a b : EReal => a * b) (ha _) rfl)

end Cert.Moe.Ref

end
-- ==== Proof.lean ====
/-
# The certificate's claims

Each frame claim from the one run of `Proof/Run.lean` (at the machine's floats and at exact arithmetic) and from the
reference's run; the value claim from the closed form of both results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.RefValue
public import Idealize.ShloMosaic.Adequacy
public import Idealize.ShloMosaic.Init

@[expose] public section

set_option maxRecDepth 16384

noncomputable section

namespace Cert.Proof

open Idealize.ShloMosaic Idealize.SL.Sem

/-- At exact arithmetic: terminates, arguments unchanged, counters zero. -/
theorem frame_kernelIdeal : Cert.quiescent_KernelIdeal := fun m ρ _ => Cert.Moe.run_frame (F := Ideal) m ρ

/-- The kernel's table of bodies is one text, whichever of its two printings names it. -/
theorem defs₀_eq : @Cert.Kernel.defs₀ Bits _ _ = @Cert.KernelIdeal.defs₀ Bits _ _ :=
  congrArg Defs.onTc (funext fun l => funext fun a => by
    obtain ⟨_ | _, h⟩ := l
    · obtain ⟨t, s⟩ := a; exact rfl
    · exact absurd h (Nat.not_lt.2 (Nat.le_add_left _ _)))
/-- So are the tables with the staging's own bodies. -/
theorem defs_eq : @Cert.Kernel.defs Bits _ _ = @Cert.KernelIdeal.defs Bits _ _ :=
  congrArg (Pipeline.defs Cert.KernelIdeal.pcfgs) defs₀_eq

/-- At the machine's floats: terminates, arguments unchanged, counters zero. -/
theorem frame_kernel : Cert.quiescent_Kernel := fun m ρ _ => by
  rw [defs_eq]
  exact Cert.Moe.run_frame (F := Bits) m ρ

/-- The reference runs, its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Moe in
/-- Device `c`'s chunk of the kernel's result is rows `512 c` to `512 c + 511` of the reference's. -/
theorem result_block (m : (ℓ : Loc Cert.KernelIdeal.nD Cert.KernelIdeal.τ Cert.KernelIdeal.sig) → Buf (Elt Ideal) ℓ)
    (ρ : Dev Cert.KernelIdeal.nD → PrngReg) (X : FVec Ideal ⟨2, ![2048, 512]⟩ .f32) (R : FVec Ideal ⟨2, ![512, 16]⟩ .f32)
    (I : IVec ⟨2, ![2048, 2]⟩ 32) (W : FVec Ideal ⟨3, ![16, 512, 1024]⟩ .f32)
    (hX : ∀ v, argX m v = X) (hR : ∀ v, argR m v = R) (hI : ∀ v, argI m v = I)
    (hE : ∀ v : Fin 4, argE m v = Layout.block ⟨3, ![4, 512, 1024]⟩ ⟨3, ![16, 512, 1024]⟩ 0 4 v W) (c : Fin 4) :
    resultAt m ρ c = Layout.block ⟨2, ![512, 1024]⟩ ⟨2, ![2048, 1024]⟩ 0 4 c (Ref.refOut X R I W) := by
  have hE' : ∀ (v : Fin 4) (e : Fin 4) (t : Fin 512) (C : Fin 1024), argE m v (ix3 e t C) = W (ix3 (expertOf v e) t C) := by
    intro v e t C
    rw [hE]
    refine congrArg W (funext fun a => Fin.ext ?_)
    match a with
    | ⟨0, _⟩ => show v.val * 4 + e.val = 4 * v.val + e.val; omega
    | ⟨1, _⟩ => rfl
    | ⟨2, _⟩ => rfl
  funext i
  have hi : i = ix2 (i 0) (i 1) := by
    funext a; match a with
    | ⟨0, _⟩ => rfl
    | ⟨1, _⟩ => rfl
  rw [hi]
  generalize i 0 = r
  generalize i 1 = C
  refine (result_entry m ρ X R I W hX hR hI hE' c r C).trans ((Ref.refOut_apply X R I W (rowIn c r) C).symm.trans ?_)
  refine congrArg (Ref.refOut X R I W) (funext fun a => Fin.ext ?_)
  match a with
  | ⟨0, _⟩ => show 512 * c.val + r.val = c.val * 512 + r.val; omega
  | ⟨1, _⟩ => rfl

/-- The kernel's chunks are together the reference's result, over the extended reals and for any arguments. -/
theorem algebraic : Cert.algebraic_KernelIdeal_ReferenceIdeal := fun m g m' g' _ h =>
  ⟨Cert.Moe.Ref.refOut (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ r c =>
        ⟨(r.1 c 4).trans ((Cert.Moe.final_result m g c).trans (result_block m g _ _ _ _ (fun v => (h v).1) (fun v => (h v).2.1)
            (fun v => (h v).2.2.1) (fun v => (h v).2.2.2) c)),
          (r.1 c 0).trans (Cert.Moe.finalA_in m g c 0 rfl), (r.1 c 1).trans (Cert.Moe.finalA_in m g c 1 rfl),
          (r.1 c 2).trans (Cert.Moe.finalA_in m g c 2 rfl), (r.1 c 3).trans (Cert.Moe.finalA_in m g c 3 rfl)⟩)
      (Cert.Moe.run_main (F := Ideal) m g),
    (θ_run Cert.ReferenceIdeal.defs _ _).mono (fun _ r => ⟨by
        refine Eq.trans (r 0).1 ?_
        exact Cert.Moe.Ref.out_eq (F := Ideal) m' 0, (r 0).2⟩)
      (Cert.ReferenceIdeal.Value.run (F := Ideal) m' g')⟩

/-- Every claim of the certificate. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
